-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  IdealRules.named_const.Statement Cert.KernelIdeal.κ "gelu_kc" .f32 0x3D122279#32 (((Real.sqrt (2 * Real.pi⁻¹)) * (8943 / 200000) : ℝ) : EReal)
  ∧ IdealRules.named_const.Statement Cert.KernelIdeal.κ "gelu_k" .f32 0x3F4C422A#32 ((Real.sqrt (2 * Real.pi⁻¹) : ℝ) : EReal)
  ∧ IdealRules.named_const.Statement Cert.KernelIdeal.κ "gelu_k_third" .f32 0x3E882C1C#32 (((Real.sqrt (2 * Real.pi⁻¹)) * (1 / 3) : ℝ) : EReal)
  ∧ IdealRules.named_const.Statement Cert.KernelIdeal.κ "third" .f32 0x3EAAAAAB#32 ((1 / 3 : ℝ) : EReal)

def preserves_Reference_ReferenceIdeal : Prop :=
  IdealRules.named_const.Statement Cert.ReferenceIdeal.κ "gelu_c" .f32 0x3D372713#32 ((8943 / 200000 : ℝ) : EReal)
  ∧ IdealRules.named_const.Statement Cert.ReferenceIdeal.κ "gelu_k" .f32 0x3F4C422A#32 ((Real.sqrt (2 * Real.pi⁻¹) : ℝ) : EReal)
  ∧ IdealRules.named_const.Statement Cert.ReferenceIdeal.κ "gelu_3c" .f32 0x3E095D4F#32 ((26829 / 200000 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v29_0)) (v2 : (c : Dev Cert.KernelIdeal.nD) → Buf (Elt Ideal) ((c.tc : Thread Cert.KernelIdeal.nD Cert.KernelIdeal.τ).loc Cert.KernelIdeal.main_v29_1)) (v3 : (c : Dev Cert.KernelIdeal.nD) → Buf (Elt Ideal) ((c.tc : Thread Cert.KernelIdeal.nD Cert.KernelIdeal.τ).loc Cert.KernelIdeal.main_v23)) (v4 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v29_0) = v1 c
          ∧ r.2.mem ((c.tc : Thread Cert.KernelIdeal.nD Cert.KernelIdeal.τ).loc Cert.KernelIdeal.main_v29_1) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_v34) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19_1) = v1 c
          ∧ r.2.mem ((c.tc : Thread Cert.ReferenceIdeal.nD Cert.ReferenceIdeal.τ).loc Cert.ReferenceIdeal.main_v19_2) = v2 c
          ∧ r.2.mem ((c.tc : Thread Cert.ReferenceIdeal.nD Cert.ReferenceIdeal.τ).loc Cert.ReferenceIdeal.main_v14) = v3 c
          ∧ r.2.mem ((c.tc : Thread Cert.ReferenceIdeal.nD Cert.ReferenceIdeal.τ).loc Cert.ReferenceIdeal.main_v25) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S53248x3584 : Shape := ⟨2, ![53248, 3584]⟩
abbrev S16 : Shape := ⟨1, ![16]⟩
abbrev S_ : Shape := ⟨0, ![]⟩
abbrev S239 : Shape := ⟨1, ![239]⟩
abbrev S1 : Shape := ⟨1, ![1]⟩
abbrev S3584x53248 : Shape := ⟨2, ![3584, 53248]⟩
abbrev S8x3584 : Shape := ⟨2, ![8, 3584]⟩
abbrev S8x128 : Shape := ⟨2, ![8, 128]⟩
abbrev S512x3584 : Shape := ⟨2, ![512, 3584]⟩
abbrev S3584x512 : Shape := ⟨2, ![3584, 512]⟩
abbrev S128x128 : Shape := ⟨2, ![128, 128]⟩
abbrev S16x8x128 : Shape := ⟨3, ![16, 8, 128]⟩
abbrev S3584 : Shape := ⟨1, ![3584]⟩
abbrev S15 : Shape := ⟨1, ![15]⟩

abbrev nBuf : Space → Nat
  | .hbm => 67
  | .vmem => 10
  | .smem => 1
  | _ => 0

abbrev bufTy : (tb : Table) → Fin (tcTables nBuf tb) → BufTy
  | .hbm, ⟨0, _⟩ => ⟨S53248x3584, .bf16⟩
  | .hbm, ⟨1, _⟩ => ⟨S53248x3584, .bf16⟩
  | .hbm, ⟨2, _⟩ => ⟨S16, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S239, .i32⟩
  | .hbm, ⟨9, _⟩ => ⟨S_, .i32⟩
  | .hbm, ⟨10, _⟩ => ⟨S239, .i32⟩
  | .hbm, ⟨11, _⟩ => ⟨S239, .i32⟩
  | .hbm, ⟨12, _⟩ => ⟨S_, .i32⟩
  | .hbm, ⟨13, _⟩ => ⟨S239, .i32⟩
  | .hbm, ⟨14, _⟩ => ⟨S239, .i32⟩
  | .hbm, ⟨15, _⟩ => ⟨S239, .f32⟩
  | .hbm, ⟨16, _⟩ => ⟨S239, .f32⟩
  | .hbm, ⟨17, _⟩ => ⟨S239, .i1⟩
  | .hbm, ⟨18, _⟩ => ⟨S_, .i32⟩
  | .hbm, ⟨19, _⟩ => ⟨S_, .i32⟩
  | .hbm, ⟨20, _⟩ => ⟨S239, .i32⟩
  | .hbm, ⟨21, _⟩ => ⟨S239, .i32⟩
  | .hbm, ⟨22, _⟩ => ⟨S239, .i32⟩
  | .hbm, ⟨23, _⟩ => ⟨S239, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .f32⟩
  | .hbm, ⟨29, _⟩ => ⟨S_, .i1⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .f32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .f32⟩
  | .hbm, ⟨52, _⟩ => ⟨S1, .f32⟩
  | .hbm, ⟨53, _⟩ => ⟨S53248x3584, .fp8e5m2⟩
  | .hbm, ⟨54, _⟩ => ⟨S3584x53248, .fp8e5m2⟩
  | .hbm, ⟨55, _⟩ => ⟨S8x3584, .f32⟩
  | .hbm, ⟨56, _⟩ => ⟨S8x128, .f32⟩
  | .hbm, ⟨57, _⟩ => ⟨S_, .f32⟩
  | .hbm, ⟨58, _⟩ => ⟨S3584, .f32⟩
  | .hbm, ⟨59, _⟩ => ⟨S1, .f32⟩
  | .hbm, ⟨60, _⟩ => ⟨S15, .f32⟩
  | .hbm, ⟨61, _⟩ => ⟨S16, .f32⟩
  | .hbm, ⟨62, _⟩ => ⟨S_, .f32⟩
  | .hbm, ⟨63, _⟩ => ⟨S_, .f32⟩
  | .hbm, ⟨64, _⟩ => ⟨S_, .i32⟩
  | .hbm, ⟨65, _⟩ => ⟨S1, .i32⟩
  | .hbm, ⟨66, _⟩ => ⟨S16, .f32⟩
  | .local _ .vmem, ⟨0, _⟩ => ⟨S512x3584, .bf16⟩
  | .local _ .vmem, ⟨1, _⟩ => ⟨S512x3584, .bf16⟩
  | .local _ .vmem, ⟨2, _⟩ => ⟨S512x3584, .bf16⟩
  | .local _ .vmem, ⟨3, _⟩ => ⟨S512x3584, .bf16⟩
  | .local _ .vmem, ⟨4, _⟩ => ⟨S512x3584, .fp8e5m2⟩
  | .local _ .vmem, ⟨5, _⟩ => ⟨S512x3584, .fp8e5m2⟩
  | .local _ .vmem, ⟨6, _⟩ => ⟨S3584x512, .fp8e5m2⟩
  | .local _ .vmem, ⟨7, _⟩ => ⟨S3584x512, .fp8e5m2⟩
  | .local _ .vmem, ⟨8, _⟩ => ⟨S8x3584, .f32⟩
  | .local _ .vmem, ⟨9, _⟩ => ⟨S8x128, .f32⟩
  | .local _ .smem, ⟨0, _⟩ => ⟨S1, .f32⟩
  | _, _ => ⟨S53248x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_c_4 : Ref sig .tc := ⟨.hbm, 24, rfl⟩
abbrev main_v13 : Ref sig .tc := ⟨.hbm, 25, rfl⟩
abbrev main_c_5 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_c_7 : Ref sig .tc := ⟨.hbm, 31, rfl⟩
abbrev main_v17 : Ref sig .tc := ⟨.hbm, 32, rfl⟩
abbrev main_c_8 : Ref sig .tc := ⟨.hbm, 33, rfl⟩
abbrev main_call1_v0 : Ref sig .tc := ⟨.hbm, 34, rfl⟩
abbrev main_v18 : Ref sig .tc := ⟨.hbm, 35, rfl⟩
abbrev main_cst_9 : Ref sig .tc := ⟨.hbm, 36, rfl⟩
abbrev main_v19 : Ref sig .tc := ⟨.hbm, 37, rfl⟩
abbrev main_c_10 : Ref sig .tc := ⟨.hbm, 38, rfl⟩
abbrev main_call2_v0 : Ref sig .tc := ⟨.hbm, 39, rfl⟩
abbrev main_v20 : Ref sig .tc := ⟨.hbm, 40, rfl⟩
abbrev main_c_11 : Ref sig .tc := ⟨.hbm, 41, rfl⟩
abbrev main_v21 : Ref sig .tc := ⟨.hbm, 42, rfl⟩
abbrev main_c_12 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_13 : Ref sig .tc := ⟨.hbm, 47, rfl⟩
abbrev main_v25 : Ref sig .tc := ⟨.hbm, 48, rfl⟩
abbrev main_c_14 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29_0 : Ref sig .tc := ⟨.hbm, 53, rfl⟩
abbrev main_v29_1 : Ref sig .tc := ⟨.hbm, 54, rfl⟩
abbrev main_v29_2 : Ref sig .tc := ⟨.hbm, 55, rfl⟩
abbrev main_v29_3 : Ref sig .tc := ⟨.hbm, 56, rfl⟩
abbrev main_cst_15 : Ref sig .tc := ⟨.hbm, 57, rfl⟩
abbrev main_v30 : Ref sig .tc := ⟨.hbm, 58, rfl⟩
abbrev main_call3_v0 : Ref sig .tc := ⟨.hbm, 59, rfl⟩
abbrev main_call3_v1 : Ref sig .tc := ⟨.hbm, 60, rfl⟩
abbrev main_v31 : Ref sig .tc := ⟨.hbm, 61, rfl⟩
abbrev main_cst_16 : Ref sig .tc := ⟨.hbm, 62, rfl⟩
abbrev main_v32 : Ref sig .tc := ⟨.hbm, 63, rfl⟩
abbrev main_c_17 : Ref sig .tc := ⟨.hbm, 64, rfl⟩
abbrev main_v33 : Ref sig .tc := ⟨.hbm, 65, rfl⟩
abbrev main_v34 : Ref sig .tc := ⟨.hbm, 66, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![104], ![false]⟩

@[reducible] def k0_t1_loop : Scf.Loop 32 :=
  let c0_i32_1 : BitVec 32 := 0#32
  let c28_i32 : BitVec 32 := 28#32
  let v4 : BitVec 32 := Scalar.addi c0_i32_1 c28_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  v5
def k0_off1 (k0_t1 : Fin k0_t1_loop.trips) : Fin 2 → Nat :=
  let c0_5 : Index := 0#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v10 : Index := Scalar.indexCast v6
  ![0, v10.toNat]
def k0_off2 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v53 : Index := Scalar.indexCast v6
  let c0_19 : Index := 0#32
  ![v53.toNat, 0]
def k0_off3 (k0_t1 : Fin k0_t1_loop.trips) : Fin 2 → Nat :=
  let c128 : Index := 128#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v55 : Index := Scalar.indexCast v6
  ![128, v55.toNat]
def k0_off4 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v98 : Index := Scalar.indexCast v6
  let c128_33 : Index := 128#32
  ![v98.toNat, 128]
def k0_off5 (k0_t1 : Fin k0_t1_loop.trips) : Fin 2 → Nat :=
  let c256 : Index := 256#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v100 : Index := Scalar.indexCast v6
  ![256, v100.toNat]
def k0_off6 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v143 : Index := Scalar.indexCast v6
  let c256_47 : Index := 256#32
  ![v143.toNat, 256]
def k0_off7 (k0_t1 : Fin k0_t1_loop.trips) : Fin 2 → Nat :=
  let c384 : Index := 384#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v145 : Index := Scalar.indexCast v6
  ![384, v145.toNat]
def k0_off8 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v188 : Index := Scalar.indexCast v6
  let c384_61 : Index := 384#32
  ![v188.toNat, 384]
def k0_off9 (k0_t1 : Fin k0_t1_loop.trips) : Fin 2 → Nat :=
  let c0_62 : Index := 0#32
  let c0_i32_1 : BitVec 32 := 0#32
  let c1_i32 : BitVec 32 := 1#32
  let arg8 : BitVec 32 := Scf.iv c0_i32_1 c1_i32 k0_t1
  let c128_i32 : BitVec 32 := 128#32
  let v5 : BitVec 32 := Scalar.muli arg8 c128_i32
  let v6 : BitVec 32 := v5
  let v190 : Index := Scalar.indexCast v6
  ![0, v190.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3584 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3584x512 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "gelu_k" => some ((Real.sqrt (2 * Real.pi⁻¹) : ℝ) : EReal)
  | "gelu_k_third" => some (((Real.sqrt (2 * Real.pi⁻¹)) * (1 / 3) : ℝ) : EReal)
  | "gelu_kc" => some (((Real.sqrt (2 * Real.pi⁻¹)) * (8943 / 200000) : ℝ) : EReal)
  | "third" => some ((1 / 3 : ℝ) : EReal)
  | _ => none
-- ==== ReferenceIdeal.lean ====
variable {F : FTy → Type} [FloatOps F] [Named F]
def κ : String → Option EReal := fun
  | "gelu_3c" => some ((26829 / 200000 : ℝ) : EReal)
  | "gelu_c" => some ((8943 / 200000 : ℝ) : EReal)
  | "gelu_k" => some ((Real.sqrt (2 * Real.pi⁻¹) : ℝ) : EReal)
  | _ => none
-- ==== Reference.lean ====
abbrev S53248x3584 : Shape := ⟨2, ![53248, 3584]⟩
abbrev S16 : Shape := ⟨1, ![16]⟩
abbrev S_ : Shape := ⟨0, ![]⟩
abbrev S1 : Shape := ⟨1, ![1]⟩
abbrev S3584x53248 : Shape := ⟨2, ![3584, 53248]⟩
abbrev S3584 : Shape := ⟨1, ![3584]⟩
abbrev S15 : Shape := ⟨1, ![15]⟩

abbrev nBuf : Space → Nat
  | .hbm => 45
  | .vmem => 5
  | .smem => 1
  | _ => 0

abbrev bufTy : (tb : Table) → Fin (tcTables nBuf tb) → BufTy
  | .hbm, ⟨0, _⟩ => ⟨S53248x3584, .bf16⟩
  | .hbm, ⟨1, _⟩ => ⟨S53248x3584, .bf16⟩
  | .hbm, ⟨2, _⟩ => ⟨S16, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .i1⟩
  | .hbm, ⟨19, _⟩ => ⟨S_, .f32⟩
  | .hbm, ⟨20, _⟩ => ⟨S_, .i1⟩
  | .hbm, ⟨21, _⟩ => ⟨S_, .i1⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S53248x3584, .f32⟩
  | .hbm, ⟨32, _⟩ => ⟨S53248x3584, .fp8e5m2⟩
  | .hbm, ⟨33, _⟩ => ⟨S3584x53248, .fp8e5m2⟩
  | .hbm, ⟨34, _⟩ => ⟨S_, .f32⟩
  | .hbm, ⟨35, _⟩ => ⟨S3584, .f32⟩
  | .hbm, ⟨36, _⟩ => ⟨S1, .f32⟩
  | .hbm, ⟨37, _⟩ => ⟨S15, .f32⟩
  | .hbm, ⟨38, _⟩ => ⟨S16, .f32⟩
  | .hbm, ⟨39, _⟩ => ⟨S53248x3584, .f32⟩
  | .hbm, ⟨40, _⟩ => ⟨S_, .f32⟩
  | .hbm, ⟨41, _⟩ => ⟨S_, .f32⟩
  | .hbm, ⟨42, _⟩ => ⟨S_, .i32⟩
  | .hbm, ⟨43, _⟩ => ⟨S1, .i32⟩
  | .hbm, ⟨44, _⟩ => ⟨S16, .f32⟩
  | .local _ .vmem, ⟨0, _⟩ => ⟨S53248x3584, .bf16⟩
  | .local _ .vmem, ⟨1, _⟩ => ⟨S53248x3584, .bf16⟩
  | .local _ .vmem, ⟨2, _⟩ => ⟨S53248x3584, .f32⟩
  | .local _ .vmem, ⟨3, _⟩ => ⟨S53248x3584, .fp8e5m2⟩
  | .local _ .vmem, ⟨4, _⟩ => ⟨S3584x53248, .fp8e5m2⟩
  | .local _ .smem, ⟨0, _⟩ => ⟨S1, .f32⟩
  | _, _ => ⟨S53248x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_cst_5 : Ref sig .tc := ⟨.hbm, 19, rfl⟩
abbrev main_v10 : Ref sig .tc := ⟨.hbm, 20, rfl⟩
abbrev main_v11 : Ref sig .tc := ⟨.hbm, 21, rfl⟩
abbrev main_cst_6 : Ref sig .tc := ⟨.hbm, 22, rfl⟩
abbrev main_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_cst_7 : Ref sig .tc := ⟨.hbm, 34, rfl⟩
abbrev main_v20 : Ref sig .tc := ⟨.hbm, 35, rfl⟩
abbrev main_call1_v0 : Ref sig .tc := ⟨.hbm, 36, rfl⟩
abbrev main_call1_v1 : Ref sig .tc := ⟨.hbm, 37, rfl⟩
abbrev main_v21 : Ref sig .tc := ⟨.hbm, 38, rfl⟩
abbrev main_v22 : Ref sig .tc := ⟨.hbm, 39, rfl⟩
abbrev main_cst_8 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_v25 : Ref sig .tc := ⟨.hbm, 44, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S53248x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S53248x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S53248x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S53248x3584 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584x53248 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KTile.lean ====
/-
  What the counted loop of the kernel's body leaves in the four result buffers, in closed form, at any float model.

  One trip of the loop handles the 128 lanes `128 k … 128 k + 127` of all 512 rows of the block, as four row tiles.
  The generated run of the loop (`Gen.pb_k0_t1`) lists the stores of the trips; here those lists are read:
  * the two code buffers hold, at every element, the code of the gradient of that element (`rowV`, `colV`);
  * the bias partials hold what they held plus the trip's tile sum (`accT`);
  * the running maximum is the trips' maxima, one after the other (`maxN`).
-/
module

public import proofs.«01_k».proof.Proof.Gen.KernelIdeal.Frame.Runs
public import Idealize.ShloMosaic.Lib.WritesUnit
public import Idealize.ShloMosaic.Lib.VecWindow
public import Idealize.ShloMosaic.Lib.Pipeline.Value
public import Idealize.ShloMosaic.Lib.ValueIdxCore

@[expose] public section

set_option maxRecDepth 16384

noncomputable section

namespace Cert.KernelIdeal.Hand

open Idealize.ShloMosaic Idealize.ShloMosaic.TcCoe Idealize.ShloMosaic.Tactic
open Idealize.ShloMosaic.ValueIdx (ix2 eq_ix2 idx2_lt0 idx2_lt1)
open Cert.KernelIdeal.Gen

variable {F : FTy → Type} [FloatOps F] [Named F]

/-- The loop makes 28 trips. -/
theorem trips_eq : k0_t1_loop.trips = 28 := by decide +kernel

/-- A trip number is below 28. -/
theorem trip_lt (k : Fin k0_t1_loop.trips) : k.val < 28 := lt_of_lt_of_eq k.isLt trips_eq

/-! ## The closed forms -/

/-- The gradient of one element: the kernel's tile arithmetic at one pair of loaded elements. -/
def dg (g v : F .bf16) : F .f32 := k0_pay6 (F := F) (fun _ => g) (fun _ => v) (ix2 0 0)

/-- The code of one gradient at the inverse scale `s`: multiply, clip, convert. -/
def code (s : F .f32) (r : F .f32) : F .fp8e5m2 := k0_pay3 (F := F) s (fun _ => r) (ix2 0 0)

/-- The codes of a 512-row block, row-wise. -/
def rowV (s : F .f32) (x1 x2 : Vec F S512x3584 .bf16) : Vec F S512x3584 .fp8e5m2 := fun y => code s (dg (x1 y) (x2 y))

/-- The codes of a 512-row block, transposed. -/
def colV (s : F .f32) (x1 x2 : Vec F S512x3584 .bf16) : Vec F S3584x512 .fp8e5m2 :=
  fun y => rowV s x1 x2 (ix2 (n0 := 512) (n1 := 3584) (y 1) (y 0))

/-- Row tile `i`, lane tile `k` of a block. -/
def tile (x : Vec F S512x3584 .bf16) (i : Fin 4) (k : Fin k0_t1_loop.trips) : Vec F S128x128 .bf16 :=
  fun y => x (ix2 (n0 := 512) (n1 := 3584)
    ⟨128 * i.val + (y 0).val, by have := i.isLt; have := idx2_lt0 (n0 := 128) (n1 := 128) y; omega⟩
    ⟨128 * k.val + (y 1).val, by have := trip_lt k; have := idx2_lt1 (n0 := 128) (n1 := 128) y; omega⟩)

/-- The 8×128 partial sums of one trip: the four row tiles, each folded to 8 rows. -/
def accT (x1 x2 : Vec F S512x3584 .bf16) (k : Fin k0_t1_loop.trips) : FVec F S8x128 .f32 :=
  k0_pay29 (k0_pay22 (k0_pay15 (k0_pay8 (tile x1 0 k) (tile x2 0 k)) (tile x1 1 k) (tile x2 1 k)) (tile x1 2 k) (tile x2 2 k))
    (tile x1 3 k) (tile x2 3 k)

/-- The running 8×128 maximum after one trip from `a`. -/
def maxT (x1 x2 : Vec F S512x3584 .bf16) (k : Fin k0_t1_loop.trips) (a : Vec F S8x128 .f32) : FVec F S8x128 .f32 :=
  k0_pay30 (k0_pay23 (k0_pay16 (k0_pay9 a (tile x1 0 k) (tile x2 0 k)) (tile x1 1 k) (tile x2 1 k)) (tile x1 2 k) (tile x2 2 k))
    (tile x1 3 k) (tile x2 3 k)

/-- The running maximum after the first `k` trips. -/
def maxN (x1 x2 : Vec F S512x3584 .bf16) (a : Vec F S8x128 .f32) : ℕ → Vec F S8x128 .f32
  | 0 => a
  | k + 1 => if h : k < k0_t1_loop.trips then maxT x1 x2 ⟨k, h⟩ (maxN x1 x2 a k) else maxN x1 x2 a k

/-- The lane tile an element of the 8×3584 partials lies in. -/
def laneTile (y : S8x3584.Idx) : Fin k0_t1_loop.trips :=
  ⟨(y 1).val / 128, by have := idx2_lt1 (n0 := 8) (n1 := 3584) y; rw [trips_eq]; omega⟩

/-- Where in its lane tile that element lies. -/
def laneIn (y : S8x3584.Idx) : S8x128.Idx :=
  ix2 (n0 := 8) (n1 := 128) (y 0) ⟨(y 1).val % 128, Nat.mod_lt _ (by norm_num)⟩

/-- The bias partials after a block. -/
def biasV (x1 x2 : Vec F S512x3584 .bf16) (a : Vec F S8x3584 .f32) : Vec F S8x3584 .f32 :=
  fun y => FloatOps.addf (a y) (accT x1 x2 (laneTile y) (laneIn y))

/-- The running maximum after a block. -/
def maxV (x1 x2 : Vec F S512x3584 .bf16) (a : Vec F S8x128 .f32) : Vec F S8x128 .f32 := maxN x1 x2 a 28

/-! ## The payloads, element by element -/

/-- A reshape to the same shape changes nothing. -/
theorem cast8 {α : Type} (v : S8x128.Idx → α) (j : S8x128.Idx) : shapeCast S8x128 v shapeCasts_S8x128_S8x128 j = v j := by
  rw [Idealize.ShloMosaic.shapeCast_self]

/-- The four tiles' gradients are the same arithmetic. -/
theorem dg1 (a b : Vec F S128x128 .bf16) (x : S128x128.Idx) : k0_pay6 a b x = dg (a x) (b x) := rfl
theorem dg2 (a b : Vec F S128x128 .bf16) (x : S128x128.Idx) : k0_pay13 a b x = dg (a x) (b x) := rfl
theorem dg3 (a b : Vec F S128x128 .bf16) (x : S128x128.Idx) : k0_pay20 a b x = dg (a x) (b x) := rfl
theorem dg4 (a b : Vec F S128x128 .bf16) (x : S128x128.Idx) : k0_pay27 a b x = dg (a x) (b x) := rfl

/-- And so are their codes. -/
theorem code4' (s : F .f32) (r : FVec F S128x128 .f32) (x : S128x128.Idx) : k0_pay3 s r x = code s (r x) := rfl
theorem code1 (s : F .f32) (a b : Vec F S128x128 .bf16) (x : S128x128.Idx) :
    k0_pay11 (Scalar.ofBits .f32 0x47600000#32) (k0_pay10 s a b) x = code s (dg (a x) (b x)) := by
  have e : k0_pay11 (Scalar.ofBits .f32 0x47600000#32) (k0_pay10 s a b) x = code s (k0_pay6 a b x) := rfl
  rw [e, dg1]
theorem code2 (s : F .f32) (a b : Vec F S128x128 .bf16) (x : S128x128.Idx) :
    k0_pay18 (k0_pay17 s a b) (Scalar.ofBits .f32 0xC7600000#32) (Scalar.ofBits .f32 0x47600000#32) x = code s (dg (a x) (b x)) := by
  have e : k0_pay18 (k0_pay17 s a b) (Scalar.ofBits .f32 0xC7600000#32) (Scalar.ofBits .f32 0x47600000#32) x = code s (k0_pay13 a b x) := rfl
  rw [e, dg2]
theorem code3 (s : F .f32) (a b : Vec F S128x128 .bf16) (x : S128x128.Idx) :
    k0_pay25 (k0_pay24 s a b) x = code s (dg (a x) (b x)) := by
  have e : k0_pay25 (k0_pay24 s a b) x = code s (k0_pay20 a b x) := rfl
  rw [e, dg3]
theorem code4 (s : F .f32) (a b : Vec F S128x128 .bf16) (x : S128x128.Idx) :
    k0_pay3 s (k0_pay27 a b) x = code s (dg (a x) (b x)) := by
  rw [code4', dg4]

/-! ## One trip -/

section Trip

variable (𝒱 : Variants) (c : Dev nD) (bd : Option 𝒱.V) (i : grid0.Coords) (arg1 : Memref sig .tc .smem S1 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S512x3584 .fp8e5m2) (harg4 : arg4.IsWhole) (arg5 : Memref sig .tc .vmem S3584x512 .fp8e5m2) (harg5 : arg5.IsWhole) (arg6 : Memref sig .tc .vmem S8x3584 .f32) (harg6 : arg6.IsWhole) (arg7 : Memref sig .tc .vmem S8x128 .f32) (harg7 : arg7.IsWhole) (v0 : Elt F .f32) (X_arg2 : BufTy.Contents (Elt F) arg2.view.ty) (X_arg3 : BufTy.Contents (Elt F) arg3.view.ty)

/-- A load of an input at a unit rectangle whose offsets are row `128 q`, lane `128 k`, is the tile. -/
theorem readAt_tile (arg : Memref sig .tc .vmem S512x3584 .bf16) (X : BufTy.Contents (Elt F) arg.view.ty) (q : Fin 4)
    (k : Fin k0_t1_loop.trips) (off : Fin 2 → ℕ) (inb : ∀ a, off a + (![128, 128] : Fin 2 → ℕ) a ≤ S512x3584.size a)
    (h : off = ![128 * q.val, 128 * k.val]) :
    arg.view.readAt (Elt F) (Rect.unit (s := S512x3584) off ![128, 128] inb).toLoadRect X = tile (arg.view.read (Elt F) X) q k := by
  subst h
  funext y
  refine congrArg (arg.view.read (Elt F) X) (funext fun a => Fin.ext ?_)
  match a with
  | ⟨0, _⟩ => show 128 * q.val + 1 * (y 0).val = 128 * q.val + (y 0).val; omega
  | ⟨1, _⟩ => show 128 * k.val + 1 * (y 1).val = 128 * k.val + (y 1).val; omega

/-- Every row-code piece of a trip holds the codes of the elements it lies over. -/
theorem trip4_mem (k : Fin k0_t1_loop.trips) (f4 f5 f6 f7) :
    ∀ p ∈ (tripL_k0_t1 (F := F) 𝒱 c bd i arg1 harg1 arg2 harg2 arg3 harg3 arg4 harg4 arg5 harg5 arg6 harg6 arg7 harg7 v0 X_arg2 X_arg3 k f4 f5 f6 f7).1, ∀ x : p.1.shape.Idx,
      p.2 x = rowV v0 (arg2.view.read (Elt F) X_arg2) (arg3.view.read (Elt F) X_arg3) (p.1.emb x) := by
  unfold tripL_k0_t1 trip_k0_t1
  simp only [List.forall_mem_cons, List.not_mem_nil, false_imp_iff, implies_true, and_true]
  exact ⟨fun x => code4 v0 _ _ x, fun x => code3 v0 _ _ x, fun x => code2 v0 _ _ x, fun x => code1 v0 _ _ x⟩

/-- The row-code pieces of a trip cover its lanes. -/
theorem trip4_cover (k : Fin k0_t1_loop.trips) (f4 f5 f6 f7) (y : S512x3584.Idx) (h : 128 * k.val ≤ (y 1).val)
    (h' : (y 1).val < 128 * k.val + 128) : ∃ p ∈ (tripL_k0_t1 (F := F) 𝒱 c bd i arg1 harg1 arg2 harg2 arg3 harg3 arg4 harg4 arg5 harg5 arg6 harg6 arg7 harg7 v0 X_arg2 X_arg3 k f4 f5 f6 f7).1, y ∈ p.1.set := by
  unfold tripL_k0_t1 trip_k0_t1
  simp only [List.exists_mem_cons_iff, List.not_mem_nil, false_and, exists_false, or_false]
  have h0 := idx2_lt0 (n0 := 512) (n1 := 3584) y
  simp only [Rect.mem_set_unit, k0_off1_eq, k0_off3_eq, k0_off5_eq, k0_off7_eq, Fin.forall_fin_two, Matrix.cons_val_zero,
    Matrix.cons_val_one]
  omega

/-- Every transposed-code piece of a trip holds the codes of the elements it lies over. -/
theorem trip5_mem (k : Fin k0_t1_loop.trips) (f4 f5 f6 f7) :
    ∀ p ∈ (tripL_k0_t1 (F := F) 𝒱 c bd i arg1 harg1 arg2 harg2 arg3 harg3 arg4 harg4 arg5 harg5 arg6 harg6 arg7 harg7 v0 X_arg2 X_arg3 k f4 f5 f6 f7).2.1, ∀ x : p.1.shape.Idx,
      p.2 x = colV v0 (arg2.view.read (Elt F) X_arg2) (arg3.view.read (Elt F) X_arg3) (p.1.emb x) := by
  have key : ∀ (o o' : Fin 2 → ℕ) (inb : ∀ a, o a + (![128, 128] : Fin 2 → ℕ) a ≤ S512x3584.size a)
      (inb' : ∀ a, o' a + (![128, 128] : Fin 2 → ℕ) a ≤ S3584x512.size a) (h0 : o 0 = o' 1) (h1 : o 1 = o' 0) (x : S128x128.Idx),
      (Rect.unit (s := S512x3584) o ![128, 128] inb).emb (ix2 (n0 := 128) (n1 := 128) (x 1) (x 0))
        = ix2 (n0 := 512) (n1 := 3584) ((Rect.unit (s := S3584x512) o' ![128, 128] inb').emb x 1)
          ((Rect.unit (s := S3584x512) o' ![128, 128] inb').emb x 0) := by
    intro o o' inb inb' h0 h1 x
    funext a
    apply Fin.ext
    match a with
    | ⟨0, _⟩ => show o 0 + 1 * (x 1).val = o' 1 + 1 * (x 1).val; omega
    | ⟨1, _⟩ => show o 1 + 1 * (x 0).val = o' 0 + 1 * (x 0).val; omega
  have swap : ∀ (w : FVec F S128x128 .fp8e5m2) (x : S128x128.Idx),
      transpose S128x128 [1, 0] w transposes_S128x128_p1_0_S128x128 x = w (ix2 (n0 := 128) (n1 := 128) (x 1) (x 0)) := by
    intro w x
    refine congrArg w (funext fun a => Fin.ext ?_)
    match a with
    | ⟨0, _⟩ => rfl
    | ⟨1, _⟩ => rfl
  unfold tripL_k0_t1 trip_k0_t1
  simp only [List.forall_mem_cons, List.not_mem_nil, false_imp_iff, implies_true, and_true]
  refine ⟨fun x => ?_, fun x => ?_, fun x => ?_, fun x => ?_⟩
  · show transpose S128x128 [1, 0] (k0_pay3 _ _) transposes_S128x128_p1_0_S128x128 x = rowV v0 _ _ (ix2 _ _)
    refine (swap _ x).trans (Eq.trans ?_ (congrArg (rowV v0 _ _)
      (key (k0_off7 k) (k0_off8 k) (k0_off7_inb k) (k0_off8_inb k) (by rw [k0_off7_eq, k0_off8_eq]; rfl) (by rw [k0_off7_eq, k0_off8_eq]; rfl) x)))
    exact code4 v0 _ _ _
  · show transpose S128x128 [1, 0] (k0_pay25 _) transposes_S128x128_p1_0_S128x128 x = rowV v0 _ _ (ix2 _ _)
    refine (swap _ x).trans (Eq.trans ?_ (congrArg (rowV v0 _ _)
      (key (k0_off5 k) (k0_off6 k) (k0_off5_inb k) (k0_off6_inb k) (by rw [k0_off5_eq, k0_off6_eq]; rfl) (by rw [k0_off5_eq, k0_off6_eq]; rfl) x)))
    exact code3 v0 _ _ _
  · show transpose S128x128 [1, 0] (k0_pay18 _ _ _) transposes_S128x128_p1_0_S128x128 x = rowV v0 _ _ (ix2 _ _)
    refine (swap _ x).trans (Eq.trans ?_ (congrArg (rowV v0 _ _)
      (key (k0_off3 k) (k0_off4 k) (k0_off3_inb k) (k0_off4_inb k) (by rw [k0_off3_eq, k0_off4_eq]; rfl) (by rw [k0_off3_eq, k0_off4_eq]; rfl) x)))
    exact code2 v0 _ _ _
  · show transpose S128x128 [1, 0] (k0_pay11 _ _) transposes_S128x128_p1_0_S128x128 x = rowV v0 _ _ (ix2 _ _)
    refine (swap _ x).trans (Eq.trans ?_ (congrArg (rowV v0 _ _)
      (key (k0_off1 k) (k0_off2 k) (k0_off1_inb k) (k0_off2_inb k) (by rw [k0_off1_eq, k0_off2_eq]; rfl) (by rw [k0_off1_eq, k0_off2_eq]; rfl) x)))
    exact code1 v0 _ _ _

/-- The transposed-code pieces of a trip cover its lanes. -/
theorem trip5_cover (k : Fin k0_t1_loop.trips) (f4 f5 f6 f7) (y : S3584x512.Idx) (h : 128 * k.val ≤ (y 0).val)
    (h' : (y 0).val < 128 * k.val + 128) : ∃ p ∈ (tripL_k0_t1 (F := F) 𝒱 c bd i arg1 harg1 arg2 harg2 arg3 harg3 arg4 harg4 arg5 harg5 arg6 harg6 arg7 harg7 v0 X_arg2 X_arg3 k f4 f5 f6 f7).2.1, y ∈ p.1.set := by
  unfold tripL_k0_t1 trip_k0_t1
  simp only [List.exists_mem_cons_iff, List.not_mem_nil, false_and, exists_false, or_false]
  have h0 := idx2_lt1 (n0 := 3584) (n1 := 512) y
  simp only [Rect.mem_set_unit, k0_off2_eq, k0_off4_eq, k0_off6_eq, k0_off8_eq, Fin.forall_fin_two, Matrix.cons_val_zero,
    Matrix.cons_val_one]
  omega

/-- After a trip the bias partials hold, over the trip's lanes, what they held plus the trip's sums. -/
theorem trip6_read (k : Fin k0_t1_loop.trips) (f4 f5 f6 f7) (y : S8x3584.Idx) :
    arg6.view.read (Elt F) (arg6.view.writes (Elt F) f6 (tripL_k0_t1 (F := F) 𝒱 c bd i arg1 harg1 arg2 harg2 arg3 harg3 arg4 harg4 arg5 harg5 arg6 harg6 arg7 harg7 v0 X_arg2 X_arg3 k f4 f5 f6 f7).2.2.1) y
      = if (y 1).val / 128 = k.val then
          FloatOps.addf (arg6.view.read (Elt F) f6 y)
            (accT (arg2.view.read (Elt F) X_arg2) (arg3.view.read (Elt F) X_arg3) (laneTile y) (laneIn y))
        else arg6.view.read (Elt F) f6 y := by
  unfold tripL_k0_t1 trip_k0_t1
  dsimp only
  have hy0 := idx2_lt0 (n0 := 8) (n1 := 3584) y
  by_cases hk : (y 1).val / 128 = k.val
  · rw [if_pos hk]
    have hlt : laneTile y = k := Fin.ext hk
    refine (View.read_writes_cons_unit_of_mem arg6.view f6 (off' := ![0, 128 * k.val]) (size := ![8, 128]) (k0_off9_inb k) _ [] y
      (laneIn y) (k0_off9_eq k) (by
      intro a
      match a with
      | ⟨0, _⟩ => show (y 0).val = 0 + (y 0).val; omega
      | ⟨1, _⟩ => show (y 1).val = 128 * k.val + (y 1).val % 128; omega)).trans ?_
    have e : ∀ (w : FVec F S8x128 .f32) (v : Vec F S8x128 .f32) (j : S8x128.Idx), k0_pay5 w v j = FloatOps.addf (v j) (w j) := by
      intro w v j
      show FloatOps.addf (shapeCast S8x128 v shapeCasts_S8x128_S8x128 j) (w j) = _
      rw [Cert.KernelIdeal.Hand.cast8]
    refine (e _ _ _).trans ?_
    rw [hlt]
    refine congrArg₂ FloatOps.addf ?_ (congrFun ?_ _)
    · refine congrArg (arg6.view.read (Elt F) f6) (funext fun a => Fin.ext ?_)
      have h9 := k0_off9_eq k
      match a with
      | ⟨0, _⟩ => show k0_off9 k 0 + 1 * (y 0).val = (y 0).val; rw [h9]; show 0 + 1 * (y 0).val = _; omega
      | ⟨1, _⟩ => show k0_off9 k 1 + 1 * ((y 1).val % 128) = (y 1).val; rw [h9]; show 128 * k.val + 1 * ((y 1).val % 128) = _; omega
    · unfold accT
      rw [← readAt_tile arg2 X_arg2 0 k _ (k0_off1_inb k) (k0_off1_eq k), ← readAt_tile arg3 X_arg3 0 k _ (k0_off1_inb k) (k0_off1_eq k),
        ← readAt_tile arg2 X_arg2 1 k _ (k0_off3_inb k) (k0_off3_eq k), ← readAt_tile arg3 X_arg3 1 k _ (k0_off3_inb k) (k0_off3_eq k),
        ← readAt_tile arg2 X_arg2 2 k _ (k0_off5_inb k) (k0_off5_eq k), ← readAt_tile arg3 X_arg3 2 k _ (k0_off5_inb k) (k0_off5_eq k),
        ← readAt_tile arg2 X_arg2 3 k _ (k0_off7_inb k) (k0_off7_eq k), ← readAt_tile arg3 X_arg3 3 k _ (k0_off7_inb k) (k0_off7_eq k)]
      rfl
  · rw [if_neg hk]
    exact View.read_writes_cons_unit_of_not_mem arg6.view f6 (off' := ![0, 128 * k.val]) (size := ![8, 128]) (k0_off9_inb k) _ [] y
      (k0_off9_eq k) 1 (by
      show (y 1).val < 128 * k.val ∨ 128 * k.val + 128 ≤ (y 1).val; omega)

/-- After a trip the running maximum is the trip's. -/
theorem trip7_read (k : Fin k0_t1_loop.trips) (f4 f5 f6 f7) :
    arg7.view.read (Elt F) (arg7.view.writes (Elt F) f7 (tripL_k0_t1 (F := F) 𝒱 c bd i arg1 harg1 arg2 harg2 arg3 harg3 arg4 harg4 arg5 harg5 arg6 harg6 arg7 harg7 v0 X_arg2 X_arg3 k f4 f5 f6 f7).2.2.2)
      = maxT (arg2.view.read (Elt F) X_arg2) (arg3.view.read (Elt F) X_arg3) k (arg7.view.read (Elt F) f7) := by
  unfold tripL_k0_t1 trip_k0_t1
  dsimp only
  funext y
  refine (View.read_writes_cons_unit_of_mem arg7.view f7 (off' := ![0, 0]) (size := ![8, 128]) inb_S8x128_S8x128_0_0 _ [] y y rfl (by
    intro a
    match a with
    | ⟨0, _⟩ => show (y 0).val = 0 + (y 0).val; omega
    | ⟨1, _⟩ => show (y 1).val = 0 + (y 1).val; omega)).trans ?_
  unfold maxT
  have e7 : arg7.view.readAt (Elt F) (Rect.unit (s := S8x128) ![0, 0] ![8, 128] inb_S8x128_S8x128_0_0).toLoadRect f7
      = arg7.view.read (Elt F) f7 := View.readAt_full arg7.view f7 (off := ![0, 0]) inb_S8x128_S8x128_0_0
  rw [← e7, ← readAt_tile arg2 X_arg2 0 k _ (k0_off1_inb k) (k0_off1_eq k), ← readAt_tile arg3 X_arg3 0 k _ (k0_off1_inb k) (k0_off1_eq k),
        ← readAt_tile arg2 X_arg2 1 k _ (k0_off3_inb k) (k0_off3_eq k), ← readAt_tile arg3 X_arg3 1 k _ (k0_off3_inb k) (k0_off3_eq k),
        ← readAt_tile arg2 X_arg2 2 k _ (k0_off5_inb k) (k0_off5_eq k), ← readAt_tile arg3 X_arg3 2 k _ (k0_off5_inb k) (k0_off5_eq k),
        ← readAt_tile arg2 X_arg2 3 k _ (k0_off7_inb k) (k0_off7_eq k), ← readAt_tile arg3 X_arg3 3 k _ (k0_off7_inb k) (k0_off7_eq k)]
  rfl

/-! ## The trips before `k`, by induction on `k` -/

variable (G4 : BufTy.Contents (Elt F) arg4.view.ty) (G5 : BufTy.Contents (Elt F) arg5.view.ty) (G6 : BufTy.Contents (Elt F) arg6.view.ty) (G7 : BufTy.Contents (Elt F) arg7.view.ty)

/-- The row codes of the lanes before trip `k`. -/
theorem pb4 : ∀ k : ℕ, k ≤ 28 → (∀ p ∈ (pb_k0_t1 (F := F) 𝒱 c bd i arg1 harg1 arg2 harg2 arg3 harg3 arg4 harg4 arg5 harg5 arg6 harg6 arg7 harg7 v0 X_arg2 X_arg3 G4 G5 G6 G7 k).1, ∀ x : p.1.shape.Idx,
      p.2 x = rowV v0 (arg2.view.read (Elt F) X_arg2) (arg3.view.read (Elt F) X_arg3) (p.1.emb x))
    ∧ ∀ y : S512x3584.Idx, (y 1).val < 128 * k → ∃ p ∈ (pb_k0_t1 (F := F) 𝒱 c bd i arg1 harg1 arg2 harg2 arg3 harg3 arg4 harg4 arg5 harg5 arg6 harg6 arg7 harg7 v0 X_arg2 X_arg3 G4 G5 G6 G7 k).1, y ∈ p.1.set
  | 0, _ => ⟨fun p hp => absurd hp List.not_mem_nil, fun y hy => absurd hy (by omega)⟩
  | k + 1, hk => by
    have ih := pb4 k (by omega)
    have hs := pb_k0_t1_succ (F := F) 𝒱 c bd i arg1 harg1 arg2 harg2 arg3 harg3 arg4 harg4 arg5 harg5 arg6 harg6 arg7 harg7 v0 X_arg2 X_arg3 G4 G5 G6 G7
      ⟨k, by rw [trips_eq]; omega⟩
    dsimp only at hs
    rw [hs]
    refine ⟨fun p hp => ?_, fun y hy => ?_⟩
    · rcases List.mem_append.mp hp with hp | hp
      · exact trip4_mem 𝒱 c bd i arg1 harg1 arg2 harg2 arg3 harg3 arg4 harg4 arg5 harg5 arg6 harg6 arg7 harg7 v0 X_arg2 X_arg3 _ _ _ _ _ p hp
      · exact ih.1 p hp
    · by_cases hy' : (y 1).val < 128 * k
      · obtain ⟨p, hp, h⟩ := ih.2 y hy'
        exact ⟨p, List.mem_append.mpr (.inr hp), h⟩
      · obtain ⟨p, hp, h⟩ := trip4_cover 𝒱 c bd i arg1 harg1 arg2 harg2 arg3 harg3 arg4 harg4 arg5 harg5 arg6 harg6 arg7 harg7 v0 X_arg2 X_arg3
          ⟨k, by rw [trips_eq]; omega⟩ (arg4.view.writes (Elt F) G4 (pb_k0_t1 (F := F) 𝒱 c bd i arg1 harg1 arg2 harg2 arg3 harg3 arg4 harg4 arg5 harg5 arg6 harg6 arg7 harg7 v0 X_arg2 X_arg3 G4 G5 G6 G7 k).1) (arg5.view.writes (Elt F) G5 (pb_k0_t1 (F := F) 𝒱 c bd i arg1 harg1 arg2 harg2 arg3 harg3 arg4 harg4 arg5 harg5 arg6 harg6 arg7 harg7 v0 X_arg2 X_arg3 G4 G5 G6 G7 k).2.1)
          (arg6.view.writes (Elt F) G6 (pb_k0_t1 (F := F) 𝒱 c bd i arg1 harg1 arg2 harg2 arg3 harg3 arg4 harg4 arg5 harg5 arg6 harg6 arg7 harg7 v0 X_arg2 X_arg3 G4 G5 G6 G7 k).2.2.1) (arg7.view.writes (Elt F) G7 (pb_k0_t1 (F := F) 𝒱 c bd i arg1 harg1 arg2 harg2 arg3 harg3 arg4 harg4 arg5 harg5 arg6 harg6 arg7 harg7 v0 X_arg2 X_arg3 G4 G5 G6 G7 k).2.2.2) y
          (by dsimp only; omega) (by dsimp only; omega)
        exact ⟨p, List.mem_append.mpr (.inl hp), h⟩

/-- The transposed codes of the lanes before trip `k`. -/
theorem pb5 : ∀ k : ℕ, k ≤ 28 → (∀ p ∈ (pb_k0_t1 (F := F) 𝒱 c bd i arg1 harg1 arg2 harg2 arg3 harg3 arg4 harg4 arg5 harg5 arg6 harg6 arg7 harg7 v0 X_arg2 X_arg3 G4 G5 G6 G7 k).2.1, ∀ x : p.1.shape.Idx,
      p.2 x = colV v0 (arg2.view.read (Elt F) X_arg2) (arg3.view.read (Elt F) X_arg3) (p.1.emb x))
    ∧ ∀ y : S3584x512.Idx, (y 0).val < 128 * k → ∃ p ∈ (pb_k0_t1 (F := F) 𝒱 c bd i arg1 harg1 arg2 harg2 arg3 harg3 arg4 harg4 arg5 harg5 arg6 harg6 arg7 harg7 v0 X_arg2 X_arg3 G4 G5 G6 G7 k).2.1, y ∈ p.1.set
  | 0, _ => ⟨fun p hp => absurd hp List.not_mem_nil, fun y hy => absurd hy (by omega)⟩
  | k + 1, hk => by
    have ih := pb5 k (by omega)
    have hs := pb_k0_t1_succ (F := F) 𝒱 c bd i arg1 harg1 arg2 harg2 arg3 harg3 arg4 harg4 arg5 harg5 arg6 harg6 arg7 harg7 v0 X_arg2 X_arg3 G4 G5 G6 G7
      ⟨k, by rw [trips_eq]; omega⟩
    dsimp only at hs
    rw [hs]
    refine ⟨fun p hp => ?_, fun y hy => ?_⟩
    · rcases List.mem_append.mp hp with hp | hp
      · exact trip5_mem 𝒱 c bd i arg1 harg1 arg2 harg2 arg3 harg3 arg4 harg4 arg5 harg5 arg6 harg6 arg7 harg7 v0 X_arg2 X_arg3 _ _ _ _ _ p hp
      · exact ih.1 p hp
    · by_cases hy' : (y 0).val < 128 * k
      · obtain ⟨p, hp, h⟩ := ih.2 y hy'
        exact ⟨p, List.mem_append.mpr (.inr hp), h⟩
      · obtain ⟨p, hp, h⟩ := trip5_cover 𝒱 c bd i arg1 harg1 arg2 harg2 arg3 harg3 arg4 harg4 arg5 harg5 arg6 harg6 arg7 harg7 v0 X_arg2 X_arg3
          ⟨k, by rw [trips_eq]; omega⟩ (arg4.view.writes (Elt F) G4 (pb_k0_t1 (F := F) 𝒱 c bd i arg1 harg1 arg2 harg2 arg3 harg3 arg4 harg4 arg5 harg5 arg6 harg6 arg7 harg7 v0 X_arg2 X_arg3 G4 G5 G6 G7 k).1) (arg5.view.writes (Elt F) G5 (pb_k0_t1 (F := F) 𝒱 c bd i arg1 harg1 arg2 harg2 arg3 harg3 arg4 harg4 arg5 harg5 arg6 harg6 arg7 harg7 v0 X_arg2 X_arg3 G4 G5 G6 G7 k).2.1)
          (arg6.view.writes (Elt F) G6 (pb_k0_t1 (F := F) 𝒱 c bd i arg1 harg1 arg2 harg2 arg3 harg3 arg4 harg4 arg5 harg5 arg6 harg6 arg7 harg7 v0 X_arg2 X_arg3 G4 G5 G6 G7 k).2.2.1) (arg7.view.writes (Elt F) G7 (pb_k0_t1 (F := F) 𝒱 c bd i arg1 harg1 arg2 harg2 arg3 harg3 arg4 harg4 arg5 harg5 arg6 harg6 arg7 harg7 v0 X_arg2 X_arg3 G4 G5 G6 G7 k).2.2.2) y
          (by dsimp only; omega) (by dsimp only; omega)
        exact ⟨p, List.mem_append.mpr (.inl hp), h⟩

/-- The bias partials after the trips before `k`. -/
theorem pb6 : ∀ k : ℕ, k ≤ 28 → ∀ y : S8x3584.Idx,
    arg6.view.read (Elt F) (arg6.view.writes (Elt F) G6 (pb_k0_t1 (F := F) 𝒱 c bd i arg1 harg1 arg2 harg2 arg3 harg3 arg4 harg4 arg5 harg5 arg6 harg6 arg7 harg7 v0 X_arg2 X_arg3 G4 G5 G6 G7 k).2.2.1) y
      = if (y 1).val / 128 < k then
          biasV (arg2.view.read (Elt F) X_arg2) (arg3.view.read (Elt F) X_arg3) (arg6.view.read (Elt F) G6) y
        else arg6.view.read (Elt F) G6 y
  | 0, _, y => by rw [if_neg (by omega)]; rfl
  | k + 1, hk, y => by
    have ih := pb6 k (by omega) y
    have hs := pb_k0_t1_succ (F := F) 𝒱 c bd i arg1 harg1 arg2 harg2 arg3 harg3 arg4 harg4 arg5 harg5 arg6 harg6 arg7 harg7 v0 X_arg2 X_arg3 G4 G5 G6 G7
      ⟨k, by rw [trips_eq]; omega⟩
    dsimp only at hs
    rw [hs]
    dsimp only
    rw [View.writes_append]
    refine (trip6_read 𝒱 c bd i arg1 harg1 arg2 harg2 arg3 harg3 arg4 harg4 arg5 harg5 arg6 harg6 arg7 harg7 v0 X_arg2 X_arg3 _ _ _ _ _ y).trans ?_
    dsimp only
    rw [ih]
    by_cases h1 : (y 1).val / 128 = k
    · rw [if_pos h1, if_neg (by omega), if_pos (by omega)]; rfl
    · rw [if_neg h1]
      by_cases h2 : (y 1).val / 128 < k
      · rw [if_pos h2, if_pos (by omega)]
      · rw [if_neg h2, if_neg (by omega)]

/-- The running maximum after the trips before `k`. -/
theorem pb7 : ∀ k : ℕ, k ≤ 28 →
    arg7.view.read (Elt F) (arg7.view.writes (Elt F) G7 (pb_k0_t1 (F := F) 𝒱 c bd i arg1 harg1 arg2 harg2 arg3 harg3 arg4 harg4 arg5 harg5 arg6 harg6 arg7 harg7 v0 X_arg2 X_arg3 G4 G5 G6 G7 k).2.2.2)
      = maxN (arg2.view.read (Elt F) X_arg2) (arg3.view.read (Elt F) X_arg3) (arg7.view.read (Elt F) G7) k
  | 0, _ => rfl
  | k + 1, hk => by
    have ih := pb7 k (by omega)
    have hs := pb_k0_t1_succ (F := F) 𝒱 c bd i arg1 harg1 arg2 harg2 arg3 harg3 arg4 harg4 arg5 harg5 arg6 harg6 arg7 harg7 v0 X_arg2 X_arg3 G4 G5 G6 G7
      ⟨k, by rw [trips_eq]; omega⟩
    dsimp only at hs
    rw [hs]
    dsimp only
    rw [View.writes_append]
    refine (trip7_read 𝒱 c bd i arg1 harg1 arg2 harg2 arg3 harg3 arg4 harg4 arg5 harg5 arg6 harg6 arg7 harg7 v0 X_arg2 X_arg3 _ _ _ _ _).trans ?_
    rw [ih]
    show _ = if h : k < k0_t1_loop.trips then maxT _ _ ⟨k, h⟩ (maxN _ _ _ k) else maxN _ _ _ k
    rw [dif_pos (by rw [trips_eq]; omega : k < k0_t1_loop.trips)]

/-! ## The whole loop -/

/-- After the loop the row-code buffer holds the block's codes, whatever it held. -/
theorem loop4 : arg4.view.read (Elt F) (arg4.view.writes (Elt F) G4 (pb_k0_t1 (F := F) 𝒱 c bd i arg1 harg1 arg2 harg2 arg3 harg3 arg4 harg4 arg5 harg5 arg6 harg6 arg7 harg7 v0 X_arg2 X_arg3 G4 G5 G6 G7 k0_t1_loop.trips).1)
    = rowV v0 (arg2.view.read (Elt F) X_arg2) (arg3.view.read (Elt F) X_arg3) := by
  rw [trips_eq]
  have h := pb4 𝒱 c bd i arg1 harg1 arg2 harg2 arg3 harg3 arg4 harg4 arg5 harg5 arg6 harg6 arg7 harg7 v0 X_arg2 X_arg3 G4 G5 G6 G7 28 (le_refl _)
  funext y
  exact View.read_writes_apply_of_pieces arg4.view G4 _ _ h.1 y (h.2 y (by have := idx2_lt1 (n0 := 512) (n1 := 3584) y; omega))

/-- After the loop the transposed-code buffer holds the block's codes transposed, whatever it held. -/
theorem loop5 : arg5.view.read (Elt F) (arg5.view.writes (Elt F) G5 (pb_k0_t1 (F := F) 𝒱 c bd i arg1 harg1 arg2 harg2 arg3 harg3 arg4 harg4 arg5 harg5 arg6 harg6 arg7 harg7 v0 X_arg2 X_arg3 G4 G5 G6 G7 k0_t1_loop.trips).2.1)
    = colV v0 (arg2.view.read (Elt F) X_arg2) (arg3.view.read (Elt F) X_arg3) := by
  rw [trips_eq]
  have h := pb5 𝒱 c bd i arg1 harg1 arg2 harg2 arg3 harg3 arg4 harg4 arg5 harg5 arg6 harg6 arg7 harg7 v0 X_arg2 X_arg3 G4 G5 G6 G7 28 (le_refl _)
  funext y
  exact View.read_writes_apply_of_pieces arg5.view G5 _ _ h.1 y (h.2 y (by have := idx2_lt0 (n0 := 3584) (n1 := 512) y; omega))

/-- After the loop the bias partials are the block's. -/
theorem loop6 : arg6.view.read (Elt F) (arg6.view.writes (Elt F) G6 (pb_k0_t1 (F := F) 𝒱 c bd i arg1 harg1 arg2 harg2 arg3 harg3 arg4 harg4 arg5 harg5 arg6 harg6 arg7 harg7 v0 X_arg2 X_arg3 G4 G5 G6 G7 k0_t1_loop.trips).2.2.1)
    = biasV (arg2.view.read (Elt F) X_arg2) (arg3.view.read (Elt F) X_arg3) (arg6.view.read (Elt F) G6) := by
  rw [trips_eq]
  funext y
  rw [pb6 𝒱 c bd i arg1 harg1 arg2 harg2 arg3 harg3 arg4 harg4 arg5 harg5 arg6 harg6 arg7 harg7 v0 X_arg2 X_arg3 G4 G5 G6 G7 28 (le_refl _) y,
    if_pos (by have := idx2_lt1 (n0 := 8) (n1 := 3584) y; omega)]

/-- After the loop the running maximum is the block's. -/
theorem loop7 : arg7.view.read (Elt F) (arg7.view.writes (Elt F) G7 (pb_k0_t1 (F := F) 𝒱 c bd i arg1 harg1 arg2 harg2 arg3 harg3 arg4 harg4 arg5 harg5 arg6 harg6 arg7 harg7 v0 X_arg2 X_arg3 G4 G5 G6 G7 k0_t1_loop.trips).2.2.2)
    = maxV (arg2.view.read (Elt F) X_arg2) (arg3.view.read (Elt F) X_arg3) (arg7.view.read (Elt F) G7) := by
  rw [trips_eq]
  exact pb7 𝒱 c bd i arg1 harg1 arg2 harg2 arg3 harg3 arg4 harg4 arg5 harg5 arg6 harg6 arg7 harg7 v0 X_arg2 X_arg3 G4 G5 G6 G7 28 (le_refl _)

end Trip

end Cert.KernelIdeal.Hand

end
-- ==== Proof.KRun.lean ====
/-
  One grid point of the kernel's body, in closed form, at any float model: from the input blocks, the two code buffers at
  anything, and the bias partials and running maximum either at anything (the first point, which zeroes them) or at what the
  point before left, the body runs and leaves the closed forms of `KTile.lean`.
-/
module

public import proofs.«01_k».proof.Proof.KTile

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx (ix1 eq_ix1)

variable {F : FTy → Type} [FloatOps F] [Named F]

local notation "𝕄" => MT nD τ sig Unit (Elt F) ℕ (UR sig nD τ) ℕ

/-- The inverse scale the body reads: the one element of its scalar operand. -/
def invOf (x0 : Vec F S1 .f32) : F .f32 := x0 (ix1 (n := 1) 0)

/-- The scalar operand has one element. -/
theorem idx_S1 (a b : S1.Idx) : a = b := by
  rw [eq_ix1 (n := 1) a, eq_ix1 (n := 1) b]
  exact congrArg (ix1 (n := 1)) (Subsingleton.elim (α := Fin 1) _ _)

/-- The zeroed bias partials. -/
abbrev bias0 : Vec F S8x3584 .f32 := k0_pay1 (F := F)

/-- The zeroed running maximum. -/
abbrev max0 : Vec F S8x128 .f32 := k0_pay2 (F := F)

variable (c : Dev nD) (i : grid0.Coords) (arg1 : Memref sig .tc .smem S1 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S512x3584 .fp8e5m2) (harg4 : arg4.IsWhole) (arg5 : Memref sig .tc .vmem S3584x512 .fp8e5m2) (harg5 : arg5.IsWhole) (arg6 : Memref sig .tc .vmem S8x3584 .f32) (harg6 : arg6.IsWhole) (arg7 : Memref sig .tc .vmem S8x128 .f32) (harg7 : arg7.IsWhole)

set_option maxHeartbeats 1000000 in
/-- The body at a point that is not the first. -/
theorem run_B (hc0 : ¬cond0_0 i) (x0 : Vec F S1 .f32) (x1 : Vec F S512x3584 .bf16) (x2 : Vec F S512x3584 .bf16) (xo5 : Vec F S8x3584 .f32) (xo6 : Vec F S8x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2
              ∗ owns (c : Thread nD τ) arg4 fullShare (rowV (invOf x0) x1 x2) ∗ owns (c : Thread nD τ) arg5 fullShare (colV (invOf x0) x1 x2)
              ∗ owns (c : Thread nD τ) arg6 fullShare (biasV x1 x2 xo5) ∗ owns (c : Thread nD τ) arg7 fullShare (maxV x1 x2 xo6)) -∗ K ⟨⟩))
          ⊢ wp frame (wpE (defs₀ (F := F)) Variants.none c none) E (cc0_gelu_bwd i arg1 harg1 arg2 harg2 arg3 harg3 arg4 harg4 arg5 harg5 arg6 harg6 arg7 harg7) K := by
  simp only [cc0_gelu_bwd_eq_skeleton]; unfold cc0_gelu_bwd_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, Hk⟩
  obtain rfl := harg1.eq_unread hf0; obtain rfl := harg2.eq_unread hf1; obtain rfl := harg3.eq_unread hf2; obtain rfl := harg6.eq_unread hf5; obtain rfl := harg7.eq_unread hf6
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    refine (loop4 Variants.none c none i arg1 harg1 arg2 harg2 arg3 harg3 arg4 harg4 arg5 harg5 arg6 harg6 arg7 harg7 _ _ _ _ _ _ _).trans ?_
    rw [hf1, hf2]
    refine congrArg (fun s => rowV s x1 x2) ?_
    exact (congrFun hf0 _).trans (congrArg x0 (idx_S1 _ _))
  isplitl [H4]
  · iexists _; isplitr
    swap; · iexact H4
    ipureintro
    refine (loop5 Variants.none c none i arg1 harg1 arg2 harg2 arg3 harg3 arg4 harg4 arg5 harg5 arg6 harg6 arg7 harg7 _ _ _ _ _ _ _).trans ?_
    rw [hf1, hf2]
    refine congrArg (fun s => colV s x1 x2) ?_
    exact (congrFun hf0 _).trans (congrArg x0 (idx_S1 _ _))
  isplitl [H5]
  · iexists _; isplitr
    swap; · iexact H5
    ipureintro
    refine (loop6 Variants.none c none i arg1 harg1 arg2 harg2 arg3 harg3 arg4 harg4 arg5 harg5 arg6 harg6 arg7 harg7 _ _ _ _ _ _ _).trans ?_
    rw [hf1, hf2, hf5]
  iexists _; isplitr
  swap; · iexact H6
  ipureintro
  refine (loop7 Variants.none c none i arg1 harg1 arg2 harg2 arg3 harg3 arg4 harg4 arg5 harg5 arg6 harg6 arg7 harg7 _ _ _ _ _ _ _).trans ?_
  rw [hf1, hf2, hf6]

set_option maxHeartbeats 1000000 in
/-- The body at the first point. -/
theorem run_A (hc0 : cond0_0 i) (x0 : Vec F S1 .f32) (x1 : Vec F S512x3584 .bf16) (x2 : Vec F S512x3584 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
              ∗ owns (c : Thread nD τ) arg4 fullShare (rowV (invOf x0) x1 x2) ∗ owns (c : Thread nD τ) arg5 fullShare (colV (invOf x0) x1 x2)
              ∗ owns (c : Thread nD τ) arg6 fullShare (biasV x1 x2 bias0) ∗ owns (c : Thread nD τ) arg7 fullShare (maxV x1 x2 max0)) -∗ K ⟨⟩))
          ⊢ wp frame (wpE (defs₀ (F := F)) Variants.none c none) E (cc0_gelu_bwd i arg1 harg1 arg2 harg2 arg3 harg3 arg4 harg4 arg5 harg5 arg6 harg6 arg7 harg7) K := by
  simp only [cc0_gelu_bwd_eq_skeleton]; unfold cc0_gelu_bwd_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  obtain rfl := harg1.eq_unread hf0; obtain rfl := harg2.eq_unread hf1; obtain rfl := harg3.eq_unread hf2
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    refine (loop4 Variants.none c none i arg1 harg1 arg2 harg2 arg3 harg3 arg4 harg4 arg5 harg5 arg6 harg6 arg7 harg7 _ _ _ _ _ _ _).trans ?_
    rw [hf1, hf2]
    refine congrArg (fun s => rowV s x1 x2) ?_
    exact (congrFun hf0 _).trans (congrArg x0 (idx_S1 _ _))
  isplitl [H4]
  · iexists _; isplitr
    swap; · iexact H4
    ipureintro
    refine (loop5 Variants.none c none i arg1 harg1 arg2 harg2 arg3 harg3 arg4 harg4 arg5 harg5 arg6 harg6 arg7 harg7 _ _ _ _ _ _ _).trans ?_
    rw [hf1, hf2]
    refine congrArg (fun s => colV s x1 x2) ?_
    exact (congrFun hf0 _).trans (congrArg x0 (idx_S1 _ _))
  isplitl [H5]
  · iexists _; isplitr
    swap; · iexact H5
    ipureintro
    rw [View.writes_append]
    refine (loop6 Variants.none c none i arg1 harg1 arg2 harg2 arg3 harg3 arg4 harg4 arg5 harg5 arg6 harg6 arg7 harg7 _ _ _ _ _ _ _).trans ?_
    rw [hf1, hf2]
    exact congrArg (biasV x1 x2) (View.read_writes_full arg6.view _ (off := ![0, 0]) inb_S8x3584_S8x3584_0_0 _ [])
  iexists _; isplitr
  swap; · iexact H6
  ipureintro
  rw [View.writes_append]
  refine (loop7 Variants.none c none i arg1 harg1 arg2 harg2 arg3 harg3 arg4 harg4 arg5 harg5 arg6 harg6 arg7 harg7 _ _ _ _ _ _ _).trans ?_
  rw [hf1, hf2]
  exact congrArg (maxV x1 x2) (View.read_writes_full arg7.view _ (off := ![0, 0]) inb_S8x128_S8x128_0_0 _ [])

end Cert.KernelIdeal.Hand

end
-- ==== Proof.KFrame.lean ====
/-
  The kernel's frame certificate and run, at any float model, over the closed forms of `KTile.lean`.

  The proof data of the one pipeline: at every point the two code windows hold the block's codes, and the two accumulator
  windows hold the running bias partials and the running maximum of all blocks so far (`biasAt`, `maxAt`). The body obligation
  is `run_A` at the first point and `run_B` at every later one. The plumbing follows the generated frame.
-/
module

public import proofs.«01_k».proof.Proof.KRun
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the accumulator windows hold after each point -/

/-- The bias partials after the body at position `n`: the blocks up to `n`, in order, from zero. -/
def biasAt (c : Dev nD) : (n : ℕ) → n < cfg0.N → Vec F S8x3584 .f32
  | 0, hn => biasV (iblk m c 1 ⟨0, hn⟩) (iblk m c 2 ⟨0, hn⟩) bias0
  | n + 1, hn => biasV (iblk m c 1 ⟨n + 1, hn⟩) (iblk m c 2 ⟨n + 1, hn⟩) (biasAt c n (Nat.lt_of_succ_lt hn))

/-- The running maximum after the body at position `n`: the blocks up to `n`, in order, from zero. -/
def maxAt (c : Dev nD) : (n : ℕ) → n < cfg0.N → Vec F S8x128 .f32
  | 0, hn => maxV (iblk m c 1 ⟨0, hn⟩) (iblk m c 2 ⟨0, hn⟩) max0
  | n + 1, hn => maxV (iblk m c 1 ⟨n + 1, hn⟩) (iblk m c 2 ⟨n + 1, hn⟩) (maxAt c n (Nat.lt_of_succ_lt hn))

/-- A point whose position is a multiple of 104 is the first. -/
theorem point_zero (t : Fin cfg0.N) (h0 : t.val % 104 = 0) : t.val = 0 := by
  have hN : t.val < 104 := lt_of_lt_of_eq t.isLt (show cfg0.N = 104 from N_0)
  omega

/-- At the first point the accumulators start from zero; -/
theorem biasAt_A (c : Dev nD) (t : Fin cfg0.N) (h0 : t.val % 104 = 0) :
    biasAt m c t.val t.isLt = biasV (iblk m c 1 t) (iblk m c 2 t) bias0 := by
  have h := point_zero t h0
  obtain ⟨n, hn⟩ := t
  cases n with
  | zero => exact rfl
  | succ n => exact absurd h (Nat.succ_ne_zero n)
theorem maxAt_A (c : Dev nD) (t : Fin cfg0.N) (h0 : t.val % 104 = 0) :
    maxAt m c t.val t.isLt = maxV (iblk m c 1 t) (iblk m c 2 t) max0 := by
  have h := point_zero t h0
  obtain ⟨n, hn⟩ := t
  cases n with
  | zero => exact rfl
  | succ n => exact absurd h (Nat.succ_ne_zero n)

/-- at a later one, from what the point before left. -/
theorem biasAt_B (c : Dev nD) (t : Fin cfg0.N) (h0 : ¬t.val % 104 = 0) :
    biasAt m c t.val t.isLt = biasV (iblk m c 1 t) (iblk m c 2 t) (biasAt m c (t.val - 1) (Nat.lt_of_le_of_lt (Nat.sub_le _ _) t.isLt)) := by
  obtain ⟨n, hn⟩ := t
  cases n with
  | zero => exact absurd (Nat.zero_mod _) h0
  | succ n => exact rfl
theorem maxAt_B (c : Dev nD) (t : Fin cfg0.N) (h0 : ¬t.val % 104 = 0) :
    maxAt m c t.val t.isLt = maxV (iblk m c 1 t) (iblk m c 2 t) (maxAt m c (t.val - 1) (Nat.lt_of_le_of_lt (Nat.sub_le _ _) t.isLt)) := by
  obtain ⟨n, hn⟩ := t
  cases n with
  | zero => exact absurd (Nat.zero_mod _) h0
  | succ n => exact rfl

/-! ## The pipeline's proof data -/

/-- The proof data of the one pipeline on core `c`: the arrays as the region finds them (`V`); after the body at
    point `t` each input's buffer at its block, the code windows at the block's codes, the accumulators at `biasAt` and
    `maxAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rowV (invOf (iblk m c 0 t)) (iblk m c 1 t) (iblk m c 2 t)
    | ⟨4, _⟩ => colV (invOf (iblk m c 0 t)) (iblk m c 1 t) (iblk m c 2 t)
    | ⟨5, _⟩ => biasAt m c t.val t.isLt
    | ⟨6, _⟩ => maxAt m c t.val t.isLt
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = rowV (invOf (iblk m c 0 t)) (iblk m c 1 t) (iblk m c 2 t) := by dsimp only [dats]
theorem after0_4 (c : Dev nD) (t : Fin cfg0.N) : (dats m 0 c).after 4 t = colV (invOf (iblk m c 0 t)) (iblk m c 1 t) (iblk m c 2 t) := by dsimp only [dats]
theorem after0_5 (c : Dev nD) (t : Fin cfg0.N) : (dats m 0 c).after 5 t = biasAt m c t.val t.isLt := by dsimp only [dats]
theorem after0_6 (c : Dev nD) (t : Fin cfg0.N) : (dats m 0 c).after 6 t = maxAt m c t.val t.isLt := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a point of case B output 5's current staging buffer holds what the body left at the point before: the point is
    not the first, the buffer was not written back between (`flush0_5`), the window is live and uncut (Lib/Pipeline/Frame.lean
    `Dat.before_out_kept`). -/
theorem before0_5_B (c : Dev nD) (t : Fin cfg0.N) (h0 : ¬t.val % 104 = 0) (d) :
    (dats m 0 c).before 5 t d = biasAt m c (t.val - 1) (Nat.lt_of_le_of_lt (Nat.sub_le _ _) t.isLt) := by
  have hN : t.val < 104 := lt_of_lt_of_eq t.isLt (show cfg0.N = 104 from N_0)
  rw [Dat.before_out_kept _ 5 rfl t (by omega) (Bool.eq_false_iff.mpr fun h => by have := (flush0_5 _).mp h; dsimp only at this; omega)
    (fun _ => rfl) (fun _ _ => rfl)]
  dsimp only [dats]
/-- At a point of case B output 6's current staging buffer holds what the body left at the point before: the point is
    not the first, the buffer was not written back between (`flush0_6`), the window is live and uncut (Lib/Pipeline/Frame.lean
    `Dat.before_out_kept`). -/
theorem before0_6_B (c : Dev nD) (t : Fin cfg0.N) (h0 : ¬t.val % 104 = 0) (d) :
    (dats m 0 c).before 6 t d = maxAt m c (t.val - 1) (Nat.lt_of_le_of_lt (Nat.sub_le _ _) t.isLt) := by
  have hN : t.val < 104 := lt_of_lt_of_eq t.isLt (show cfg0.N = 104 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 104 := lt_of_lt_of_eq t.isLt (show cfg0.N = 104 from N_0)
  by_cases h0 : t.val % 104 = 0
  · rw [biasAt_A m c t h0, maxAt_A m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_A c (grid0.coords t) _ (hs0_0 t) _ (hs0_1 t) _ (hs0_2 t) _ (hs0_3 t) _ (hs0_4 t) _ (hs0_5 t) _ (hs0_6 t) ((hcond0_0 t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [biasAt_B m c t h0, maxAt_B m c t h0]
    simp only [before0_5_B m c t h0, before0_6_B m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_B c (grid0.coords t) _ (hs0_0 t) _ (hs0_1 t) _ (hs0_2 t) _ (hs0_3 t) _ (hs0_4 t) _ (hs0_5 t) _ (hs0_6 t) (fun h => h0 ((hcond0_0 t).mp h)) (iblk m c 0 t) (iblk m c 1 t) (iblk m c 2 t) _ _ Set.univ _)
    isplitl [H0]; · iexact H0
    isplitl [H1]; · iexact H1
    isplitl [H2]; · iexact H2
    isplitl [H3]; · iexists _; iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1, hostOps1_1, hostOps1_2])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `fun m ρ _ => Cert.KernelIdeal.Hand.frame m ρ`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.KWords.lean ====
/-
  The kernel as it runs, on words. Its program is the idealized one with each named constant read as the word it was printed
  with; so the idealized program's frame, which holds for every reading of the named constants, is its frame.
-/
module

public import proofs.«01_k».proof.Proof.KFrame
public import proofs.«01_k».proof.Defs
public import proofs.«01_k».proof.Proof.Gen.Kernel

@[expose] public section

set_option maxRecDepth 16384
set_option maxHeartbeats 4000000

noncomputable section

namespace Cert.Hand

open Idealize.ShloMosaic Idealize.ShloMosaic.TcCoe Idealize.SL.Sem

/-- A named constant read as its word. -/
abbrev words : Named Bits where
  named _ _ {φ} bits := FloatOps.ofBits φ bits

/-- The two kernel body tables are one. -/
theorem defs₀_eq : @Kernel.defs₀ Bits _ _ = @KernelIdeal.defs₀ Bits _ words _ := by
  unfold Kernel.defs₀ KernelIdeal.defs₀
  refine congrArg (Defs.onTc (nD := Kernel.nD) (τ := Kernel.τ) (sig := Kernel.sig) (Val := Elt Bits) (Λ := Kernel.Λ₀)) ?_
  funext l a
  match l, a with
  | 0, (t, s) => rfl

/-- So are the tables with the pipeline added. -/
theorem defs_eq : @Kernel.defs Bits _ _ = @KernelIdeal.defs Bits _ words _ :=
  congrArg (Pipeline.defs (Kernel.pcfgs (F := Bits))) defs₀_eq

/-- The two host programs are one; neither holds a named constant. -/
theorem main_eq : @Kernel.main Bits _ _ = @KernelIdeal.main Bits _ _ := (rfl)

/-- The kernel on words leaves its arguments unchanged and every counter at zero. -/
theorem frame_words : Cert.quiescent_Kernel := by
  intro m ρ _
  rw [defs_eq, main_eq]
  exact @KernelIdeal.Hand.frame Bits _ words m ρ

end Cert.Hand

end
-- ==== Proof.KArr.lean ====
/-
  The kernel's four result arrays after the last grid point, at any float model, as functions of the arrays the region
  finds: the two code arrays element by element, the two accumulator arrays as what the last point's body leaves.
-/
module

public import proofs.«01_k».proof.Proof.KFrame

@[expose] public section

set_option maxRecDepth 16384

noncomputable section

namespace Cert.KernelIdeal.Hand

open Idealize.ShloMosaic Idealize.ShloMosaic.TcCoe
open Idealize.SL Idealize.SL.Sem
open Idealize.ShloMosaic.Pipeline (Dat)
open Idealize.ShloMosaic.ValueIdx (ix1 ix2 eq_ix2 idx2_lt0 idx2_lt1)
open Cert.KernelIdeal.Gen

variable {F : FTy → Type} [FloatOps F] [Named F]
variable (m : (ℓ : Loc nD τ sig) → Buf (Elt F) ℓ)

/-! ## The windows' block indices -/

theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = 0 ∧ win0_4.index t 1 = t.val := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel

/-- A point is below 104. -/
theorem point_lt (t : Fin cfg0.N) : t.val < 104 := lt_of_lt_of_eq t.isLt (show cfg0.N = 104 from N_0)

/-! ## The input blocks -/

/-- The 512 rows of an array that the block at point `t` covers. -/
def rows {α : Type} (X : S53248x3584.Idx → α) (t : Fin cfg0.N) : S512x3584.Idx → α := fun y =>
  X (ix2 (n0 := 53248) (n1 := 3584) ⟨512 * t.val + (y 0).val, by have := point_lt t; have := idx2_lt0 (n0 := 512) (n1 := 3584) y; omega⟩
    (y 1))

/-- The gradient's block at point `t` is those rows of the first argument, -/
theorem iblk1_eq (c : Dev nD) (t : Fin cfg0.N) : iblk m c 1 t = rows (m ((c.tc : Thread nD τ).loc main_arg0)) t := by
  funext y
  unfold iblk
  rw [View.read_apply]
  show V m c main_arg0 _ = _
  rw [V_main_arg0]
  unfold rows
  congr 1
  funext a
  apply Fin.ext
  match a with
  | ⟨0, _⟩ => show win0_1.index t 0 * 512 + 1 * (y 0).val = 512 * t.val + (y 0).val; rw [(index1 t).1]; omega
  | ⟨1, _⟩ => show win0_1.index t 1 * 3584 + 1 * (y 1).val = (y 1).val; rw [(index1 t).2]; omega

/-- and the activation's those rows of the second. -/
theorem iblk2_eq (c : Dev nD) (t : Fin cfg0.N) : iblk m c 2 t = rows (m ((c.tc : Thread nD τ).loc main_arg1)) t := by
  funext y
  unfold iblk
  rw [View.read_apply]
  show V m c main_arg1 _ = _
  rw [V_main_arg1]
  unfold rows
  congr 1
  funext a
  apply Fin.ext
  match a with
  | ⟨0, _⟩ => show win0_2.index t 0 * 512 + 1 * (y 0).val = 512 * t.val + (y 0).val; rw [(index2 t).1]; omega
  | ⟨1, _⟩ => show win0_2.index t 1 * 3584 + 1 * (y 1).val = (y 1).val; rw [(index2 t).2]; omega

/-- The scale operand, as the region finds it. -/
def invV (c : Dev nD) : F .f32 := (V m c main_v28 : S1.Idx → F .f32) (ix1 (n := 1) 0)

/-- Every point's scale block is it. -/
theorem iblk0_eq (c : Dev nD) (t : Fin cfg0.N) : invOf (iblk m c 0 t) = invV m c := by
  unfold invOf iblk
  rw [View.read_apply]
  show V m c main_v28 _ = V m c main_v28 _
  congr 1
  funext a
  apply Fin.ext
  have : ∀ i : S1.Idx, (i a).val = 0 := fun i => by
    match a with
    | ⟨0, _⟩ => have h : (i 0).val < 1 := (i 0).isLt; exact Nat.lt_one_iff.mp h
  rw [this]
  exact (this _).symm

/-! ## The code arrays -/

/-- All codes, row-wise. -/
def fullRow (s : F .f32) (G X : S53248x3584.Idx → F .bf16) : S53248x3584.Idx → F .fp8e5m2 := fun i => code s (dg (G i) (X i))

/-- All codes, transposed. -/
def fullCol (s : F .f32) (G X : S53248x3584.Idx → F .bf16) : S3584x53248.Idx → F .fp8e5m2 :=
  fun i => fullRow s G X (ix2 (n0 := 53248) (n1 := 3584) (i 1) (i 0))

/-- The row-code array ends at all codes. -/
theorem arr3_eq (c : Dev nD) : (dats m 0 c).arrAt 3 cfg0.N
    = fullRow (invV m c) (m ((c.tc : Thread nD τ).loc main_arg0)) (m ((c.tc : Thread nD τ).loc main_arg1)) := by
  refine (dats m 0 c).arrAt_eq_of_cover 3 _ (fun t _ => ?_) fun i => ?_
  · show (cfg0.win 3).cut (grid0.coords t) ((dats m 0 c).after 3 t) = _
    rw [after0_3, iblk0_eq, iblk1_eq, iblk2_eq]
    funext y
    rw [View.read_apply]
    show fullRow (invV m c) (m ((c.tc : Thread nD τ).loc main_arg0)) (m ((c.tc : Thread nD τ).loc main_arg1)) _ = _
    congr 1
    funext a
    apply Fin.ext
    match a with
    | ⟨0, _⟩ => show 512 * t.val + (y 0).val = win0_3.index t 0 * 512 + 1 * (y 0).val; rw [(index3 t).1]; omega
    | ⟨1, _⟩ => show (y 1).val = win0_3.index t 1 * 3584 + 1 * (y 1).val; rw [(index3 t).2]; omega
  · have h0 : (i 0 : Nat) < 53248 := (i 0).isLt
    have h1 : (i 1 : Nat) < 3584 := (i 1).isLt
    let t : Fin cfg0.N := ⟨(i 0 : Nat) / 512, by rw [show cfg0.N = 104 from N_0]; omega⟩
    refine ⟨t, flush0_3 t, ?_⟩
    show i ∈ ((View.whole main_v29_0).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [(index3 t).1]; show (i 0 : Nat) / 512 * 512 ≤ _ ∧ _ < (i 0 : Nat) / 512 * 512 + 512; omega
    | ⟨1, _⟩ => show win0_3.index t 1 * 3584 ≤ (i 1 : Nat) ∧ (i 1 : Nat) < win0_3.index t 1 * 3584 + 3584
                rw [(index3 t).2]; omega

/-- The transposed code array ends at all codes, transposed. -/
theorem arr4_eq (c : Dev nD) : (dats m 0 c).arrAt 4 cfg0.N
    = fullCol (invV m c) (m ((c.tc : Thread nD τ).loc main_arg0)) (m ((c.tc : Thread nD τ).loc main_arg1)) := by
  refine (dats m 0 c).arrAt_eq_of_cover 4 _ (fun t _ => ?_) fun i => ?_
  · show (cfg0.win 4).cut (grid0.coords t) ((dats m 0 c).after 4 t) = _
    rw [after0_4, iblk0_eq, iblk1_eq, iblk2_eq]
    funext y
    rw [View.read_apply]
    show fullRow (invV m c) (m ((c.tc : Thread nD τ).loc main_arg0)) (m ((c.tc : Thread nD τ).loc main_arg1)) _
      = fullRow (invV m c) (m ((c.tc : Thread nD τ).loc main_arg0)) (m ((c.tc : Thread nD τ).loc main_arg1)) _
    congr 1
    funext a
    apply Fin.ext
    match a with
    | ⟨0, _⟩ => show 512 * t.val + (y 1).val = win0_4.index t 1 * 512 + 1 * (y 1).val; rw [(index4 t).2]; omega
    | ⟨1, _⟩ => show (y 0).val = win0_4.index t 0 * 3584 + 1 * (y 0).val; rw [(index4 t).1]; omega
  · have h0 : (i 0 : Nat) < 3584 := (i 0).isLt
    have h1 : (i 1 : Nat) < 53248 := (i 1).isLt
    let t : Fin cfg0.N := ⟨(i 1 : Nat) / 512, by rw [show cfg0.N = 104 from N_0]; omega⟩
    refine ⟨t, flush0_4 t, ?_⟩
    show i ∈ ((View.whole main_v29_1).slice (win0_4.rect t)).set
    rw [View.set_slice_whole, Rect.mem_set_unit]
    intro a
    match a with
    | ⟨0, _⟩ => show win0_4.index t 0 * 3584 ≤ (i 0 : Nat) ∧ (i 0 : Nat) < win0_4.index t 0 * 3584 + 3584
                rw [(index4 t).1]; omega
    | ⟨1, _⟩ => show win0_4.index t 1 * 512 ≤ (i 1 : Nat) ∧ (i 1 : Nat) < win0_4.index t 1 * 512 + 512
                rw [(index4 t).2]; show (i 1 : Nat) / 512 * 512 ≤ _ ∧ _ < (i 1 : Nat) / 512 * 512 + 512; omega

/-! ## The accumulator arrays -/

/-- The last point. -/
def lastPt : Fin cfg0.N := ⟨103, by rw [show cfg0.N = 104 from N_0]; norm_num⟩

/-- A point that writes an accumulator back is the last. -/
theorem eq_lastPt (t : Fin cfg0.N) (h : t.val % 104 = 103) : t = lastPt := by
  have := point_lt t
  exact Fin.ext (show t.val = 103 by omega)

/-- The bias partials' array ends at what the last body leaves, -/
theorem arr5_eq (c : Dev nD) : (dats m 0 c).arrAt 5 cfg0.N = biasAt m c 103 lastPt.isLt := by
  refine (dats m 0 c).arrAt_eq_of_cover 5 _ (fun t hf => ?_) fun i => ?_
  · obtain rfl := eq_lastPt t ((flush0_5 t).mp hf)
    show (cfg0.win 5).cut (grid0.coords lastPt) ((dats m 0 c).after 5 lastPt) = _
    rw [after0_5]
    funext y
    rw [View.read_apply]
    show biasAt m c 103 lastPt.isLt _ = biasAt m c 103 lastPt.isLt _
    congr 1
    funext a
    apply Fin.ext
    match a with
    | ⟨0, _⟩ => show (y 0).val = win0_5.index lastPt 0 * 8 + 1 * (y 0).val; rw [(index5 lastPt).1]; omega
    | ⟨1, _⟩ => show (y 1).val = win0_5.index lastPt 1 * 3584 + 1 * (y 1).val; rw [(index5 lastPt).2]; omega
  · refine ⟨lastPt, (flush0_5 lastPt).mpr rfl, ?_⟩
    have h0 : (i 0 : Nat) < 8 := (i 0).isLt
    have h1 : (i 1 : Nat) < 3584 := (i 1).isLt
    show i ∈ ((View.whole main_v29_2).slice (win0_5.rect lastPt)).set
    rw [View.set_slice_whole, Rect.mem_set_unit]
    intro a
    match a with
    | ⟨0, _⟩ => show win0_5.index lastPt 0 * 8 ≤ (i 0 : Nat) ∧ (i 0 : Nat) < win0_5.index lastPt 0 * 8 + 8
                rw [(index5 lastPt).1]; omega
    | ⟨1, _⟩ => show win0_5.index lastPt 1 * 3584 ≤ (i 1 : Nat) ∧ (i 1 : Nat) < win0_5.index lastPt 1 * 3584 + 3584
                rw [(index5 lastPt).2]; omega

/-- and the running maximum's likewise. -/
theorem arr6_eq (c : Dev nD) : (dats m 0 c).arrAt 6 cfg0.N = maxAt m c 103 lastPt.isLt := by
  refine (dats m 0 c).arrAt_eq_of_cover 6 _ (fun t hf => ?_) fun i => ?_
  · obtain rfl := eq_lastPt t ((flush0_6 t).mp hf)
    show (cfg0.win 6).cut (grid0.coords lastPt) ((dats m 0 c).after 6 lastPt) = _
    rw [after0_6]
    funext y
    rw [View.read_apply]
    show maxAt m c 103 lastPt.isLt _ = maxAt m c 103 lastPt.isLt _
    congr 1
    funext a
    apply Fin.ext
    match a with
    | ⟨0, _⟩ => show (y 0).val = win0_6.index lastPt 0 * 8 + 1 * (y 0).val; rw [(index6 lastPt).1]; omega
    | ⟨1, _⟩ => show (y 1).val = win0_6.index lastPt 1 * 128 + 1 * (y 1).val; rw [(index6 lastPt).2]; omega
  · refine ⟨lastPt, (flush0_6 lastPt).mpr rfl, ?_⟩
    have h0 : (i 0 : Nat) < 8 := (i 0).isLt
    have h1 : (i 1 : Nat) < 128 := (i 1).isLt
    show i ∈ ((View.whole main_v29_3).slice (win0_6.rect lastPt)).set
    rw [View.set_slice_whole, Rect.mem_set_unit]
    intro a
    match a with
    | ⟨0, _⟩ => show win0_6.index lastPt 0 * 8 ≤ (i 0 : Nat) ∧ (i 0 : Nat) < win0_6.index lastPt 0 * 8 + 8
                rw [(index6 lastPt).1]; omega
    | ⟨1, _⟩ => show win0_6.index lastPt 1 * 128 ≤ (i 1 : Nat) ∧ (i 1 : Nat) < win0_6.index lastPt 1 * 128 + 128
                rw [(index6 lastPt).2]; omega

end Cert.KernelIdeal.Hand

end
-- ==== Proof.Folds.lean ====
/-
  The kernel's accumulators, in the idealized arithmetic. `elt e r l` is an array of elements read at natural-number
  coordinates; an element of row `512·t + 128·i + 8·g + j` is met at point `t`, row tile `i`, group `g`, partial row `j`.
  Here the bias partials after point `n` are shown to be the sum of the elements met so far, and the running maximum is
  characterised by its upper bounds.
-/
module

public import proofs.«01_k».proof.Proof.KArr
public import Idealize.ShloMosaic.PureOps.Ideal.Laws

@[expose] public section

set_option maxRecDepth 16384

noncomputable section

namespace Cert.KernelIdeal.Hand

open Idealize.ShloMosaic Idealize.ShloMosaic.TcCoe
open Idealize.ShloMosaic.ValueIdx (ix1 ix2 ix3 eq_ix2 idx2_lt0 idx2_lt1)
open Cert.KernelIdeal.Gen

/-! ## Elements by natural-number coordinates -/

/-- All gradients, element by element. -/
def grads (G X : S53248x3584.Idx → Ideal .bf16) : S53248x3584.Idx → EReal := fun i => dg (F := Ideal) (G i) (X i)

/-- An array's element at row `r`, lane `l`; zero outside. -/
def elt (e : S53248x3584.Idx → EReal) (r l : ℕ) : EReal :=
  if h : r < 53248 ∧ l < 3584 then e (ix2 (n0 := 53248) (n1 := 3584) ⟨r, h.1⟩ ⟨l, h.2⟩) else 0

theorem elt_eq (e : S53248x3584.Idx → EReal) (i : S53248x3584.Idx) (r l : ℕ) (hr : (i 0).val = r) (hl : (i 1).val = l) :
    elt e r l = e i := by
  subst hr hl
  unfold elt
  rw [dif_pos ⟨idx2_lt0 (n0 := 53248) (n1 := 3584) i, idx2_lt1 (n0 := 53248) (n1 := 3584) i⟩]
  exact congrArg e (eq_ix2 (n0 := 53248) (n1 := 3584) i).symm

/-! ## One row tile -/

/-- Group `g`, row `j`, lane `l` of a tile seen as 16 groups of 8 rows is row `8·g + j` of the tile. -/
theorem groups_apply {α : Type} (f : S128x128.Idx → α) (y : S16x8x128.Idx) (x : S128x128.Idx)
    (h0 : (x 0).val = 8 * (y 0).val + (y 1).val) (h1 : (x 1).val = (y 2).val) :
    shapeCast S16x8x128 f shapeCasts_S128x128_S16x8x128 y = f x := by
  refine shapeCast_apply f _ y x ?_
  rw [Shape.rowMajor_val_two, Shape.rowMajor_val_three]
  show (x 0).val * 128 + (x 1).val = ((y 0).val * 8 + (y 1).val) * 128 + (y 2).val
  rw [h0, h1]
  omega

/-- Where in a tile the `g`-th element folded into the partial at `j` lies. -/
def inTile (j : S8x128.Idx) (g : Fin 16) : S128x128.Idx :=
  ix2 (n0 := 128) (n1 := 128) ⟨8 * g.val + (j 0).val, by have := idx2_lt0 (n0 := 8) (n1 := 128) j; have := g.isLt; omega⟩ (j 1)

theorem groups_lift {α : Type} (f : S128x128.Idx → α) (j : S8x128.Idx) (g : Fin 16) :
    shapeCast S16x8x128 f shapeCasts_S128x128_S16x8x128 (reduces_S16x8x128_S8x128.lift j g) = f (inTile j g) :=
  groups_apply f _ _ rfl rfl

/-- A sum over the groups. -/
theorem tileSum (f : FVec Ideal S128x128 .f32) (j : S8x128.Idx) :
    multiReduction .add [0] S8x128 (shapeCast S16x8x128 f shapeCasts_S128x128_S16x8x128 : FVec Ideal S16x8x128 .f32) 0x00000000#32
        reduces_S16x8x128_S8x128 (.inl rfl) rfl j
      = ∑ g : Fin 16, (f (inTile j g) : EReal) := by
  refine (Ideal.multiReduction_add_single _ _ reduces_S16x8x128_S8x128 _ _ j).trans (Finset.sum_congr rfl fun g _ => ?_)
  exact groups_lift f j g

/-- A maximum over the groups, by its upper bounds. -/
theorem tileMax_le (f : FVec Ideal S128x128 .f32) (j : S8x128.Idx) (b : EReal) :
    (multiReduction .maximumf [0] S8x128 (absf (shapeCast S16x8x128 f shapeCasts_S128x128_S16x8x128 : FVec Ideal S16x8x128 .f32)) 0xFF800000#32
        reduces_S16x8x128_S8x128 (.inl rfl) rfl j : EReal) ≤ b
      ↔ ∀ g : Fin 16, max (f (inTile j g) : EReal) (-(f (inTile j g) : EReal)) ≤ b := by
  refine (iff_of_eq (congrArg (fun v : EReal => v ≤ b) (Ideal.multiReduction_maximumf_single _ _ reduces_S16x8x128_S8x128 _ _ j))).trans ?_
  refine (Finset.fold_max_le _).trans ?_
  have hb : ((FloatOps.ofBits (F := Ideal) .f32 0xFF800000#32 : EReal)) = ⊥ := by
    show Ideal.ofBits .f32 0xFF800000#32 = ⊥
    simp [Ideal.ofBits, Ideal.ieee]
  rw [hb]
  refine ⟨fun h g => ?_, fun h => ⟨bot_le, fun g _ => ?_⟩⟩
  · have := h.2 g (Finset.mem_univ _)
    rw [← groups_lift f j g]
    exact this
  · have := h g
    rw [← groups_lift f j g] at this
    exact this

/-! ## One trip -/

/-- The zero the accumulators start from. -/
theorem zeroWord : (Scalar.ofBits (F := Ideal) .f32 0x00000000#32 : EReal) = 0 := by
  show Ideal.ofBits .f32 0x00000000#32 = 0
  simp [Ideal.ofBits, Ideal.ieee]

/-- The gradient met in row tile `i`, group `g`, of trip `k` at partial `j`. -/
def met (x1 x2 : Vec Ideal S512x3584 .bf16) (k : Fin k0_t1_loop.trips) (j : S8x128.Idx) (i : Fin 4) (g : Fin 16) : EReal :=
  dg (F := Ideal) (tile x1 i k (inTile j g)) (tile x2 i k (inTile j g))

/-- A trip's partial is the sum of what it meets. -/
theorem accT_eq (x1 x2 : Vec Ideal S512x3584 .bf16) (k : Fin k0_t1_loop.trips) (j : S8x128.Idx) :
    (accT x1 x2 k j : EReal) = ∑ i : Fin 4, ∑ g : Fin 16, met x1 x2 k j i g := by
  have e : (accT x1 x2 k j : EReal)
      = (((Scalar.ofBits (F := Ideal) .f32 0x00000000#32 : EReal)
          + (multiReduction .add [0] S8x128 (shapeCast S16x8x128 (k0_pay6 (tile x1 0 k) (tile x2 0 k)) shapeCasts_S128x128_S16x8x128 : FVec Ideal S16x8x128 .f32)
              0x00000000#32 reduces_S16x8x128_S8x128 (.inl rfl) rfl j : EReal))
          + (multiReduction .add [0] S8x128 (shapeCast S16x8x128 (k0_pay13 (tile x1 1 k) (tile x2 1 k)) shapeCasts_S128x128_S16x8x128 : FVec Ideal S16x8x128 .f32)
              0x00000000#32 reduces_S16x8x128_S8x128 (.inl rfl) rfl j : EReal)
          + (multiReduction .add [0] S8x128 (shapeCast S16x8x128 (k0_pay20 (tile x1 2 k) (tile x2 2 k)) shapeCasts_S128x128_S16x8x128 : FVec Ideal S16x8x128 .f32)
              0x00000000#32 reduces_S16x8x128_S8x128 (.inl rfl) rfl j : EReal))
          + (multiReduction .add [0] S8x128 (shapeCast S16x8x128 (k0_pay27 (tile x1 3 k) (tile x2 3 k)) shapeCasts_S128x128_S16x8x128 : FVec Ideal S16x8x128 .f32)
              0x00000000#32 reduces_S16x8x128_S8x128 (.inl rfl) rfl j : EReal) := rfl
  rw [e, zeroWord, zero_add, Fin.sum_univ_four]
  exact congrArg₂ (fun a b : EReal => a + b) (congrArg₂ (fun a b : EReal => a + b) (congrArg₂ (fun a b : EReal => a + b) (tileSum _ j) (tileSum _ j)) (tileSum _ j)) (tileSum _ j)

/-- What a trip leaves in the running maximum is at most `b` just when what it held and every absolute value it meets is. -/
theorem maxT_le (x1 x2 : Vec Ideal S512x3584 .bf16) (k : Fin k0_t1_loop.trips) (a : Vec Ideal S8x128 .f32) (j : S8x128.Idx) (b : EReal) :
    (maxT x1 x2 k a j : EReal) ≤ b
      ↔ (a j : EReal) ≤ b ∧ ∀ (i : Fin 4) (g : Fin 16), max (met x1 x2 k j i g) (-(met x1 x2 k j i g)) ≤ b := by
  have e : (maxT x1 x2 k a j : EReal)
      = max (max (max (max (shapeCast S8x128 a shapeCasts_S8x128_S8x128 j : EReal)
          (multiReduction .maximumf [0] S8x128 (absf (shapeCast S16x8x128 (k0_pay6 (tile x1 0 k) (tile x2 0 k)) shapeCasts_S128x128_S16x8x128 : FVec Ideal S16x8x128 .f32))
              0xFF800000#32 reduces_S16x8x128_S8x128 (.inl rfl) rfl j : EReal))
          (multiReduction .maximumf [0] S8x128 (absf (shapeCast S16x8x128 (k0_pay13 (tile x1 1 k) (tile x2 1 k)) shapeCasts_S128x128_S16x8x128 : FVec Ideal S16x8x128 .f32))
              0xFF800000#32 reduces_S16x8x128_S8x128 (.inl rfl) rfl j : EReal))
          (multiReduction .maximumf [0] S8x128 (absf (shapeCast S16x8x128 (k0_pay20 (tile x1 2 k) (tile x2 2 k)) shapeCasts_S128x128_S16x8x128 : FVec Ideal S16x8x128 .f32))
              0xFF800000#32 reduces_S16x8x128_S8x128 (.inl rfl) rfl j : EReal))
          (multiReduction .maximumf [0] S8x128 (absf (shapeCast S16x8x128 (k0_pay27 (tile x1 3 k) (tile x2 3 k)) shapeCasts_S128x128_S16x8x128 : FVec Ideal S16x8x128 .f32))
              0xFF800000#32 reduces_S16x8x128_S8x128 (.inl rfl) rfl j : EReal) := rfl
  rw [e, max_le_iff, max_le_iff, max_le_iff, max_le_iff, cast8]
  rw [tileMax_le, tileMax_le, tileMax_le, tileMax_le]
  constructor
  · rintro ⟨⟨⟨⟨h, h0⟩, h1⟩, h2⟩, h3⟩
    refine ⟨h, fun i => ?_⟩
    match i with
    | 0 => exact h0
    | 1 => exact h1
    | 2 => exact h2
    | 3 => exact h3
  · rintro ⟨h, h'⟩
    exact ⟨⟨⟨⟨h, h' 0⟩, h' 1⟩, h' 2⟩, h' 3⟩

/-! ## One block -/

/-- What is met in the block at point `t` are the gradients of its rows. -/
theorem met_rows (G X : S53248x3584.Idx → Ideal .bf16) (t : Fin cfg0.N) (k : Fin k0_t1_loop.trips) (j : S8x128.Idx) (i : Fin 4) (g : Fin 16) :
    met (rows G t) (rows X t) k j i g
      = elt (grads G X) (512 * t.val + (128 * i.val + (8 * g.val + (j 0).val))) (128 * k.val + (j 1).val) := by
  exact (elt_eq (grads G X) _ _ _ rfl rfl).symm

/-- What the first `n` trips leave in the running maximum, by its upper bounds. -/
theorem maxN_le (x1 x2 : Vec Ideal S512x3584 .bf16) (a : Vec Ideal S8x128 .f32) (j : S8x128.Idx) (b : EReal) : ∀ n : ℕ,
    (maxN x1 x2 a n j : EReal) ≤ b
      ↔ (a j : EReal) ≤ b ∧ ∀ k : Fin k0_t1_loop.trips, k.val < n → ∀ (i : Fin 4) (g : Fin 16),
          max (met x1 x2 k j i g) (-(met x1 x2 k j i g)) ≤ b
  | 0 => ⟨fun h => ⟨h, fun k hk => absurd hk (Nat.not_lt_zero _)⟩, fun h => h.1⟩
  | n + 1 => by
    have ih := maxN_le x1 x2 a j b n
    unfold maxN
    by_cases hn : n < k0_t1_loop.trips
    · rw [dif_pos hn, maxT_le, ih]
      constructor
      · rintro ⟨⟨ha, h⟩, h'⟩
        refine ⟨ha, fun k hk => ?_⟩
        rcases Nat.lt_succ_iff_lt_or_eq.mp hk with hk | hk
        · exact h k hk
        · have : k = ⟨n, hn⟩ := Fin.ext hk
          rw [this]
          exact h'
      · rintro ⟨ha, h⟩
        exact ⟨⟨ha, fun k hk => h k (Nat.lt_succ_of_lt hk)⟩, h ⟨n, hn⟩ (Nat.lt_succ_self n)⟩
    · rw [dif_neg hn, ih]
      constructor
      · rintro ⟨ha, h⟩
        exact ⟨ha, fun k hk => h k (by have := k.isLt; omega)⟩
      · rintro ⟨ha, h⟩
        exact ⟨ha, fun k hk => h k (Nat.lt_succ_of_lt hk)⟩

/-! ## All points so far -/

variable (m : (ℓ : Loc nD τ sig) → Buf (Elt Ideal) ℓ)

/-- The gradients of the two arguments. -/
def gradsOf (c : Dev nD) : S53248x3584.Idx → EReal :=
  grads (m ((c.tc : Thread nD τ).loc main_arg0)) (m ((c.tc : Thread nD τ).loc main_arg1))

/-- What the block at point `t` adds to the bias partial at `y`. -/
theorem blockSum (c : Dev nD) (t : Fin cfg0.N) (y : S8x3584.Idx) :
    (accT (F := Ideal) (iblk m c 1 t) (iblk m c 2 t) (laneTile y) (laneIn y) : EReal)
      = ∑ i ∈ Finset.range 4, ∑ g ∈ Finset.range 16, elt (gradsOf m c) (512 * t.val + (128 * i + (8 * g + (y 0).val))) (y 1).val := by
  rw [iblk1_eq, iblk2_eq, accT_eq, Finset.sum_range]
  refine Finset.sum_congr rfl fun i _ => ?_
  rw [Finset.sum_range]
  refine Finset.sum_congr rfl fun g _ => ?_
  rw [met_rows]
  show elt _ _ (128 * ((y 1).val / 128) + (y 1).val % 128) = _
  rw [Nat.div_add_mod]
  rfl

/-- The bias partial after point `n` is the sum of the gradients met so far. -/
theorem biasAt_eq (c : Dev nD) (y : S8x3584.Idx) : ∀ (n : ℕ) (hn : n < cfg0.N),
    (biasAt m c n hn y : EReal) = ∑ t ∈ Finset.range (n + 1), ∑ i ∈ Finset.range 4, ∑ g ∈ Finset.range 16,
      elt (gradsOf m c) (512 * t + (128 * i + (8 * g + (y 0).val))) (y 1).val
  | 0, hn => by
    have e : (biasAt m c 0 hn y : EReal) = (Scalar.ofBits (F := Ideal) .f32 0x00000000#32 : EReal)
        + (accT (F := Ideal) (iblk m c 1 ⟨0, hn⟩) (iblk m c 2 ⟨0, hn⟩) (laneTile y) (laneIn y) : EReal) := rfl
    rw [e, zeroWord, zero_add, blockSum, Finset.sum_range_one]
  | n + 1, hn => by
    have e : (biasAt m c (n + 1) hn y : EReal) = (biasAt m c n (Nat.lt_of_succ_lt hn) y : EReal)
        + (accT (F := Ideal) (iblk m c 1 ⟨n + 1, hn⟩) (iblk m c 2 ⟨n + 1, hn⟩) (laneTile y) (laneIn y) : EReal) := rfl
    rw [e, blockSum, biasAt_eq c y n, Finset.sum_range_succ _ (n + 1)]

/-- The running maximum after point `n`, by its upper bounds: zero and every absolute value met so far. -/
theorem maxAt_le (c : Dev nD) (j : S8x128.Idx) (b : EReal) : ∀ (n : ℕ) (hn : n < cfg0.N),
    (maxAt m c n hn j : EReal) ≤ b ↔ 0 ≤ b ∧ ∀ t ≤ n, ∀ (k : Fin k0_t1_loop.trips) (i : Fin 4) (g : Fin 16),
      max (elt (gradsOf m c) (512 * t + (128 * i.val + (8 * g.val + (j 0).val))) (128 * k.val + (j 1).val))
        (-(elt (gradsOf m c) (512 * t + (128 * i.val + (8 * g.val + (j 0).val))) (128 * k.val + (j 1).val))) ≤ b
  | 0, hn => by
    have e : (maxAt m c 0 hn j : EReal) = (maxN (F := Ideal) (iblk m c 1 ⟨0, hn⟩) (iblk m c 2 ⟨0, hn⟩) max0 28 j : EReal) := rfl
    have z : ((max0 (F := Ideal)) j : EReal) = 0 := zeroWord
    rw [e, maxN_le, z, iblk1_eq, iblk2_eq]
    refine and_congr_right fun _ => ?_
    constructor
    · intro h t ht k i g
      have := h k (by have := k.isLt; have := trips_eq; omega) i g
      rw [met_rows] at this
      rw [Nat.le_zero.mp ht]
      exact this
    · intro h k _ i g
      rw [met_rows]
      exact h 0 (le_refl _) k i g
  | n + 1, hn => by
    have e : (maxAt m c (n + 1) hn j : EReal)
        = (maxN (F := Ideal) (iblk m c 1 ⟨n + 1, hn⟩) (iblk m c 2 ⟨n + 1, hn⟩) (maxAt m c n (Nat.lt_of_succ_lt hn)) 28 j : EReal) := rfl
    rw [e, maxN_le, maxAt_le c j b n, iblk1_eq, iblk2_eq]
    constructor
    · rintro ⟨⟨hb, h⟩, h'⟩
      refine ⟨hb, fun t ht k i g => ?_⟩
      rcases Nat.le_succ_iff.mp ht with ht | ht
      · exact h t ht k i g
      · have := h' k (by have := k.isLt; have := trips_eq; omega) i g
        rw [met_rows] at this
        rw [ht]
        exact this
    · rintro ⟨hb, h⟩
      refine ⟨⟨hb, fun t ht => h t (Nat.le_succ_of_le ht)⟩, fun k _ i g => ?_⟩
      rw [met_rows]
      exact h (n + 1) (le_refl _) k i g

end Cert.KernelIdeal.Hand

end
-- ==== Proof.Scale.lean ====
/-
  The scale. The kernel finds its exponent by counting the powers of two `2^-126 … 2^112` that are at most the size, and
  writes the scale as an exponent field; the reference takes a logarithm and an exponential. Here both are shown to be
  `2^E` (and `2^-E` for the inverse) for one and the same integer `E` with `-125 ≤ E ≤ 113`, for every extended real.
-/
module

public import Idealize.ShloMosaic.PureOps.Ideal
public import Idealize.ShloMosaic.PureOps.Reduce

@[expose] public section

set_option maxRecDepth 16384

noncomputable section

namespace Cert.Hand

open Idealize.ShloMosaic

/-! ## Exponent fields -/

/-- The three fields of a word that is an exponent shifted into place. -/
theorem fields : ∀ n : Fin 255, ((BitVec.ofNat 32 n.val <<< 23#32).extractLsb' 31 1 == 1#1) = false
    ∧ ((BitVec.ofNat 32 n.val <<< 23#32).extractLsb' 23 8).toNat = n.val
    ∧ ((BitVec.ofNat 32 n.val <<< 23#32).extractLsb' 0 23).toNat = 0 := by decide +kernel

/-- The float whose exponent field is `n`, and nothing else, is `2^(n - 127)`. -/
theorem ofBits_exp (n : ℕ) (h1 : 1 ≤ n) (h2 : n < 255) :
    Ideal.ofBits .f32 (BitVec.ofNat 32 n <<< 23#32) = (((2 : ℝ) ^ ((n : ℤ) - 127) : ℝ) : EReal) := by
  obtain ⟨f1, f2, f3⟩ := fields ⟨n, h2⟩
  simp only at f1 f2 f3
  unfold Ideal.ofBits Ideal.ieee
  simp only [Nat.reduceAdd, f1, f2, f3]
  rw [if_neg (by omega), if_neg (by omega)]
  refine congrArg (fun r : ℝ => (r : EReal)) ?_
  rw [if_neg (by decide), one_mul, show ((2 ^ 23 + 0 : ℕ) : ℝ) = (2 : ℝ) ^ (23 : ℤ) by norm_num, ← zpow_add₀ (two_ne_zero)]
  refine congrArg (fun e : ℤ => (2 : ℝ) ^ e) ?_
  norm_num

/-! ## The kernel's exponent -/

/-- Entry `k` of the kernel's table of powers. -/
def powWord (k : ℕ) : BitVec 32 := IntOp.shli .host (IntOp.addi 1#32 (BitVec.ofNat 32 k)) 23#32

/-- It is `2^(k - 126)`. -/
theorem powWord_val (k : ℕ) (h : k < 239) :
    Ideal.ofBits .f32 (powWord k) = (((2 : ℝ) ^ ((k : ℤ) - 126) : ℝ) : EReal) := by
  have e : powWord k = BitVec.ofNat 32 (1 + k) <<< 23#32 := by
    show (1#32 + BitVec.ofNat 32 k) <<< 23#32 = _
    rw [BitVec.ofNat_add]
  rw [e, ofBits_exp (1 + k) (by omega) (by omega)]
  congr 2
  push_cast
  ring

/-- How many of the powers are at most `z`. -/
def countOf (z : EReal) : ℕ := (Finset.univ.filter fun k : Fin 239 => Ideal.cmp .ole (Ideal.ofBits .f32 (powWord k.val)) z = 1#1).card

/-- A one-bit word of a truth value is 1 just when it is true. -/
theorem ofBool_eq_one (b : Bool) : BitVec.ofBool b = 1#1 ↔ b = true := by cases b <;> decide

/-- The integer part of the binary logarithm. -/
def ilog (r : ℝ) : ℤ := ⌊Real.log r * (1 / Real.log 2)⌋

/-- A power of two is at most `r` just when its exponent is at most the logarithm. -/
theorem zpow_le_iff (x : ℤ) (r : ℝ) (hr : 0 < r) : (2 : ℝ) ^ x ≤ r ↔ x ≤ ilog r := by
  have h2 : 0 < Real.log 2 := Real.log_pos (by norm_num)
  unfold ilog
  rw [Int.le_floor, mul_one_div, le_div_iff₀ h2, ← Real.log_zpow, Real.log_le_log_iff (zpow_pos two_pos _) hr]

/-- For a positive real it is the binary logarithm plus 127, kept between 0 and 239. -/
theorem countOf_coe (r : ℝ) (hr : 0 < r) : countOf r = min 239 (ilog r + 127).toNat := by
  unfold countOf
  rw [← Fin.card_filter_val_lt]
  congr 1
  ext k
  simp only [Finset.mem_filter, Finset.mem_univ, true_and]
  rw [powWord_val k.val k.isLt]
  unfold Ideal.cmp
  simp only [ofBool_eq_one, decide_eq_true_eq, EReal.coe_le_coe_iff]
  rw [zpow_le_iff _ r hr]
  omega

/-- For zero it is 0. -/
theorem countOf_zero : countOf 0 = 0 := by
  unfold countOf
  rw [Finset.card_eq_zero, Finset.filter_eq_empty_iff]
  intro k _
  rw [powWord_val k.val k.isLt]
  unfold Ideal.cmp
  simp only [ofBool_eq_one, decide_eq_true_eq, not_le]
  exact EReal.coe_pos.2 (zpow_pos two_pos _)

/-- The kernel's exponent from its count and its size. -/
def kexp0 (n : BitVec 32) (z : EReal) : BitVec 32 :=
  Scalar.select (IntOp.andi (IntOp.cmpi .sgt n 0#32) (Ideal.cmp .olt z (Ideal.ofBits .f32 0x7F800000#32)))
    (IntOp.subi n 126#32) 0#32

/-- The reference's exponent from its size. -/
def rexp (z : EReal) : EReal :=
  Scalar.select (IntOp.andi (Ideal.cmp .oge z (Ideal.ofBits .f32 0x00800000#32)) (Ideal.cmp .olt z (Ideal.ofBits .f32 0x7F800000#32)))
    (min (Ideal.liftRound Int.floor (Ideal.div (Ideal.log z) (Ideal.log (Ideal.ofBits .f32 0x40000000#32))) + Ideal.ofBits .f32 0x3F800000#32)
      (Ideal.ofBits .f32 0x42E20000#32))
    (Ideal.ofBits .f32 0x00000000#32)

theorem ofBits_inf : Ideal.ofBits .f32 0x7F800000#32 = ⊤ := by simp [Ideal.ofBits, Ideal.ieee]
theorem ofBits_ninf : Ideal.ofBits .f32 0xFF800000#32 = ⊥ := by simp [Ideal.ofBits, Ideal.ieee]
theorem ofBits_zero : Ideal.ofBits .f32 0x00000000#32 = ((0 : ℝ) : EReal) := by simp [Ideal.ofBits, Ideal.ieee]
theorem ofBits_one : Ideal.ofBits .f32 0x3F800000#32 = ((1 : ℝ) : EReal) := by
  simp [Ideal.ofBits, Ideal.ieee, -EReal.coe_mul] <;> norm_num
theorem ofBits_two : Ideal.ofBits .f32 0x40000000#32 = ((2 : ℝ) : EReal) := by
  simp [Ideal.ofBits, Ideal.ieee, -EReal.coe_mul] <;> norm_num
theorem ofBits_113 : Ideal.ofBits .f32 0x42E20000#32 = ((113 : ℝ) : EReal) := by
  simp [Ideal.ofBits, Ideal.ieee, -EReal.coe_mul] <;> norm_num
theorem ofBits_minNormal : Ideal.ofBits .f32 0x00800000#32 = (((2 : ℝ) ^ (-126 : ℤ) : ℝ) : EReal) := by
  simp [Ideal.ofBits, Ideal.ieee, -EReal.coe_mul] <;> norm_num

/-- A select whose condition is a conjunction of two truth values. -/
theorem select_and {α : Type} (p q : Bool) (a b : α) :
    Scalar.select (IntOp.andi (BitVec.ofBool p) (BitVec.ofBool q)) a b = if p = true ∧ q = true then a else b := by
  cases p <;> cases q <;> rfl

/-- `0 < n` as a signed comparison, for a count. -/
theorem sgt_zero : ∀ n : Fin 240, (0#32).slt (BitVec.ofNat 32 n.val) = decide (0 < n.val) := by decide +kernel

/-- The two exponents agree at a nonnegative size: one integer in range is both. -/
theorem exps_agree (z : EReal) (hz : 0 ≤ z) :
    ∃ E : ℤ, -125 ≤ E ∧ E ≤ 113 ∧ kexp0 (BitVec.ofNat 32 (countOf z)) z = BitVec.ofInt 32 E ∧ rexp z = ((E : ℝ) : EReal)
      ∧ (z = 0 → E = 0) := by
  unfold kexp0 rexp
  rw [ofBits_inf, ofBits_minNormal, ofBits_two, ofBits_one, ofBits_113, ofBits_zero]
  unfold Ideal.cmp IntOp.cmpi
  simp only [select_and]
  induction z with
  | bot => exact absurd hz (by simp)
  | top => exact ⟨0, by norm_num, by norm_num, by simp, by simp, fun h => rfl⟩
  | coe r =>
    have hr0 : 0 ≤ r := by exact_mod_cast hz
    rcases hr0.eq_or_lt with h0 | hr
    · subst h0
      refine ⟨0, by norm_num, by norm_num, ?_, ?_, fun _ => rfl⟩
      · rw [EReal.coe_zero, countOf_zero, if_neg (by simp)]; rfl
      · rw [if_neg (by
          simp only [decide_eq_true_eq, EReal.coe_le_coe_iff, not_and]
          intro h; exact absurd h (not_le.2 (zpow_pos two_pos _)))]
        simp
    · have hc := countOf_coe r hr
      have hlt : ((r : ℝ) : EReal) < ⊤ := EReal.coe_lt_top r
      have hle := zpow_le_iff (-126) r hr
      have hs := sgt_zero ⟨countOf r, by rw [hc]; omega⟩
      simp only at hs
      simp only [hs, decide_eq_true_eq, hlt, and_true, EReal.coe_le_coe_iff, hle]
      have hz0 : ((r : ℝ) : EReal) = 0 → False := fun h => hr.ne' (by exact_mod_cast h)
      by_cases hL : -126 ≤ ilog r
      · refine ⟨min (ilog r + 1) 113, by omega, by omega, ?_, ?_, fun h => (hz0 h).elim⟩
        · rw [if_pos (by omega)]
          have e : min (ilog r + 1) 113 = (countOf r : ℤ) - 126 := by omega
          rw [e, sub_eq_add_neg, BitVec.ofInt_add, BitVec.ofInt_natCast]
          show BitVec.ofNat 32 _ - 126#32 = _
          rw [BitVec.sub_eq_add_neg]
          rfl
        · rw [if_pos hL, Ideal.log_coe, if_neg (not_le.2 hr), Ideal.log_coe, if_neg (by norm_num), Ideal.div_coe (Real.log_pos (by norm_num)).ne',
            ← EReal.coe_mul, Ideal.liftRound_coe, ← EReal.coe_add]
          push_cast
          rfl
      · refine ⟨0, by norm_num, by norm_num, ?_, ?_, fun _ => rfl⟩
        · rw [if_neg (by omega)]; rfl
        · rw [if_neg hL]; simp

/-! ## From the exponent to the scale -/

/-- The exponent field the kernel writes for exponent `E` denotes `2^E`. -/
theorem scale_word (E : ℤ) (h1 : -126 ≤ E) (h2 : E ≤ 127) :
    Ideal.ofBits .f32 (IntOp.shli .host (IntOp.addi (BitVec.ofInt 32 E) 127#32) 23#32) = (((2 : ℝ) ^ E : ℝ) : EReal) := by
  have e : IntOp.shli .host (IntOp.addi (BitVec.ofInt 32 E) 127#32) 23#32 = BitVec.ofNat 32 (E + 127).toNat <<< 23#32 := by
    show (BitVec.ofInt 32 E + 127#32) <<< 23#32 = _
    congr 1
    have : BitVec.ofNat 32 (E + 127).toNat = BitVec.ofInt 32 (E + 127) := by
      conv_rhs => rw [← Int.toNat_of_nonneg (show 0 ≤ E + 127 by omega)]
      rw [BitVec.ofInt_natCast]
    rw [this, BitVec.ofInt_add]
    rfl
  rw [e, ofBits_exp _ (by omega) (by omega)]
  congr 2
  omega

/-- The exponential of `E log 2` is `2^E`. -/
theorem exp_log_two (E : ℤ) :
    Ideal.exp (((E : ℝ) : EReal) * Ideal.log (Ideal.ofBits .f32 0x40000000#32)) = (((2 : ℝ) ^ E : ℝ) : EReal) := by
  rw [ofBits_two, Ideal.log_coe, if_neg (by norm_num), ← EReal.coe_mul, Ideal.exp_coe, mul_comm, Real.exp_mul,
    Real.exp_log (by norm_num), Real.rpow_intCast]

/-- The size both programs take from the history's maximum. -/
def sizeOf (a : EReal) : EReal := max (a * Ideal.ofBits .f32 0x37924925#32) (-(a * Ideal.ofBits .f32 0x37924925#32))

theorem sizeOf_nonneg (a : EReal) : 0 ≤ sizeOf a := by
  unfold sizeOf
  rcases le_total 0 (a * Ideal.ofBits .f32 0x37924925#32) with h | h
  · exact h.trans (le_max_left _ _)
  · exact (EReal.neg_nonneg.mpr h).trans (le_max_right _ _)

/-- The kernel's exponent from the history's maximum: 0 at a zero maximum. -/
def kexp (a : EReal) : BitVec 32 :=
  Scalar.select (Ideal.cmp .oeq a (Ideal.ofBits .f32 0x00000000#32)) 0#32 (kexp0 (BitVec.ofNat 32 (countOf (sizeOf a))) (sizeOf a))

theorem kexp_agree (a : EReal) :
    ∃ E : ℤ, -125 ≤ E ∧ E ≤ 113 ∧ kexp a = BitVec.ofInt 32 E ∧ rexp (sizeOf a) = ((E : ℝ) : EReal) := by
  obtain ⟨E, h1, h2, hk, hr, h0⟩ := exps_agree (sizeOf a) (sizeOf_nonneg a)
  refine ⟨E, h1, h2, ?_, hr⟩
  unfold kexp
  by_cases ha : a = 0
  · have : E = 0 := h0 (by rw [sizeOf, ha, zero_mul, neg_zero, max_self])
    rw [this, ha, ofBits_zero]
    unfold Ideal.cmp
    simp [Scalar.select]
  · rw [ofBits_zero]
    unfold Ideal.cmp
    rw [Scalar.select, if_neg (by
      rw [show (1 : BitVec 1) = 1#1 from rfl, ofBool_eq_one, decide_eq_true_eq]; exact_mod_cast ha), hk]

/-- THE SCALE: the kernel's exponent field is the reference's exponential. -/
theorem scale_eq (a : EReal) :
    Ideal.ofBits .f32 (IntOp.shli .host (IntOp.addi (kexp a) 127#32) 23#32)
      = Ideal.exp (rexp (sizeOf a) * Ideal.log (Ideal.ofBits .f32 0x40000000#32)) := by
  obtain ⟨E, h1, h2, hk, hr⟩ := kexp_agree a
  rw [hk, hr, exp_log_two, scale_word E (by omega) (by omega)]

/-- THE INVERSE SCALE, likewise. -/
theorem inv_eq (a : EReal) :
    Ideal.ofBits .f32 (IntOp.shli .host (IntOp.addi (-(kexp a)) 127#32) 23#32)
      = Ideal.exp (-(rexp (sizeOf a)) * Ideal.log (Ideal.ofBits .f32 0x40000000#32)) := by
  obtain ⟨E, h1, h2, hk, hr⟩ := kexp_agree a
  have hn : -(BitVec.ofInt 32 E) = BitVec.ofInt 32 (-E) := by
    rw [BitVec.ofInt_neg]
  rw [hk, hr, hn, scale_word (-E) (by omega) (by omega), ← exp_log_two, Int.cast_neg, EReal.coe_neg]

end Cert.Hand

end
-- ==== Proof.KHost.lean ====
/-
  The kernel program's host lines, at any float model: what the region finds in the scale operand, and each result after the
  lines behind the region, as terms of the arguments and of the region's arrays.
-/
module

public import proofs.«01_k».proof.Proof.KArr
public import Idealize.ShloMosaic.Lib.StableHlo.Run
public import Idealize.ShloMosaic.Lib.Pipeline.FrameSuffix

@[expose] public section

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F] [Named F]
variable (m : (ℓ : Loc nD τ sig) → Buf (Elt F) ℓ)

/-! ## The terms -/

/-- The maximum of the history. -/
def histV (h : FVec F S16 .f32) : FVec F S_ .f32 :=
  Host.reduce FloatOps.maximumf h (constant S_ .f32 0xFF800000#32) reducesTo_S16_S_d0 h_S_

/-- The size: the maximum over 57344, absolute. -/
def sizeV (a : FVec F S_ .f32) : FVec F S_ .f32 := Host.absf (mulf a (constant S_ .f32 0x37924925#32))

/-- The table of the 239 powers of two. -/
def powV : FVec F S239 .f32 :=
  bitcastToFloat .f32 (Host.shli (addi (broadcastInDim S239 ![] bcast_S_S239 (constantI S_ 32 1#32)) (iotaInDim S239 32 0))
    (broadcastInDim S239 ![] bcast_S_S239 (constantI S_ 32 23#32)))

/-- How many of them are at most the size. -/
def countV (z : FVec F S_ .f32) : IVec S_ 32 :=
  Host.reduce IntOp.addi
    (id (select (cmpf .ole powV (broadcastInDim S239 ![] bcast_S_S239 z))
      (broadcastInDim S239 ![] bcast_S_S239 (constantI S_ 32 1#32)) (broadcastInDim S239 ![] bcast_S_S239 (constantI S_ 32 0#32))))
    (constantI S_ 32 0#32) reducesTo_S239_S_d0 h_S_

/-- The exponent. -/
def expV (a : FVec F S_ .f32) : IVec S_ 32 :=
  select (cmpf .oeq a (constant S_ .f32 0x00000000#32)) (id (constantI S_ 32 0#32))
    (select (andi (cmpi .sgt (countV (sizeV a)) (constantI S_ 32 0#32)) (cmpf .olt (sizeV a) (constant S_ .f32 0x7F800000#32)))
      (subi (countV (sizeV a)) (constantI S_ 32 126#32)) (id (constantI S_ 32 0#32)))

/-- The float with exponent `e`: the exponent field alone. -/
def fieldV (e : IVec S_ 32) : FVec F S_ .f32 :=
  bitcastToFloat .f32 (Host.shli (addi e (constantI S_ 32 127#32)) (constantI S_ 32 23#32))

/-- The history moved on by one, with a new first entry. -/
def newHist (h : FVec F S16 .f32) (a : FVec F S_ .f32) : FVec F S16 .f32 :=
  Host.scatter scatter_S16_S1_S__n_0_0_0 (fun _ b => b)
    (concatenate S16 0 [⟨S1, extractStridedSlice S1 ![15] h slices_S16_S1_15⟩, ⟨S15, extractStridedSlice S15 ![0] h slices_S16_S15_0⟩]
      concatenates_S1_S15_S16_d0)
    (broadcastInDim S1 ![] bcast_S_S1 (constantI S_ 32 0#32)) a

/-! ## Before the region -/

set_option maxHeartbeats 2000000 in
/-- What the region finds in the exponent's buffer. -/
theorem V_main_v20 (c : Dev nD) : Gen.V0 m c (Proc.devRef .tc main_v20) = expV (histV (m ((c.tc : Thread nD τ).loc main_arg2))) := by
  simp only [Gen.V0, Gen.hostOps0, Gen.hostOps0_1, Gen.hostOps0_2, Gen.hostOps0_3, Gen.hostOps0_4, Gen.hostOps0_5, Gen.hostOps0_6, TRef.ternary, TRef.unary, TRef.toBuf, TRef.ofBuf, cast_eq, List.flatten_cons, List.flatten_nil, List.append_nil, List.cons_append, List.nil_append]
  after_results <;> rfl

set_option maxHeartbeats 2000000 in
/-- What it finds in the scale's buffer. -/
theorem V_main_v23 (c : Dev nD) : Gen.V0 m c (Proc.devRef .tc main_v23) = fieldV (expV (histV (m ((c.tc : Thread nD τ).loc main_arg2)))) := by
  simp only [Gen.V0, Gen.hostOps0, Gen.hostOps0_1, Gen.hostOps0_2, Gen.hostOps0_3, Gen.hostOps0_4, Gen.hostOps0_5, Gen.hostOps0_6, TRef.ternary, TRef.unary, TRef.toBuf, TRef.ofBuf, cast_eq, List.flatten_cons, List.flatten_nil, List.append_nil, List.cons_append, List.nil_append]
  after_results <;> rfl

set_option maxHeartbeats 2000000 in
/-- What it finds in the inverse scale's operand. -/
theorem V_main_v28 (c : Dev nD) : Gen.V0 m c (Proc.devRef .tc main_v28)
    = broadcastInDim S1 ![] bcast_S_S1 (fieldV (negi (expV (histV (m ((c.tc : Thread nD τ).loc main_arg2)))))) := by
  simp only [Gen.V0, Gen.hostOps0, Gen.hostOps0_1, Gen.hostOps0_2, Gen.hostOps0_3, Gen.hostOps0_4, Gen.hostOps0_5, Gen.hostOps0_6, TRef.ternary, TRef.unary, TRef.toBuf, TRef.ofBuf, cast_eq, List.flatten_cons, List.flatten_nil, List.append_nil, List.cons_append, List.nil_append]
  after_results <;> rfl

/-! ## After it -/

/-- Core `c`'s buffers when the region is left. -/
abbrev exitV (c : Dev nD) : Valuation τ sig (Elt F) :=
  Pipeline.withArrays spec0 c (Gen.V0 m c) fun w => (dats m 0 c).arrAt w cfg0.N

theorem exit_main_arg2 (c : Dev nD) : exitV m c (Proc.devRef .tc main_arg2) = m ((c.tc : Thread nD τ).loc main_arg2) :=
  (Pipeline.withArrays_of_ne _ c (Gen.V0 m c) _ main_arg2 (by exact (by decide : ∀ w, Pipeline.arrRef spec0 w ≠ main_arg2))).trans (Gen.V_main_arg2 m c)
theorem exit_main_v29_2 (c : Dev nD) : exitV m c (Proc.devRef .tc main_v29_2) = biasAt m c 103 lastPt.isLt :=
  (Pipeline.withArrays_arr spec0 Gen.launch0.win.arr_inj c (Gen.V0 m c) _ 5).trans (arr5_eq m c)
theorem exit_main_v29_3 (c : Dev nD) : exitV m c (Proc.devRef .tc main_v29_3) = maxAt m c 103 lastPt.isLt :=
  (Pipeline.withArrays_arr spec0 Gen.launch0.win.arr_inj c (Gen.V0 m c) _ 6).trans (arr6_eq m c)
theorem exit_main_v23 (c : Dev nD) : exitV m c (Proc.devRef .tc main_v23) = fieldV (expV (histV (m ((c.tc : Thread nD τ).loc main_arg2)))) :=
  (Pipeline.withArrays_of_ne _ c (Gen.V0 m c) _ main_v23 (by exact (by decide : ∀ w, Pipeline.arrRef spec0 w ≠ main_v23))).trans (V_main_v23 m c)

set_option maxHeartbeats 1100000 in
/-- The later lines, from any contents, at the bias gradient; -/
theorem tail_main_v30 (V0 : Valuation τ sig (Elt F)) :
    after (List.flatten [Gen.hostOps1, Gen.hostOps1_1, Gen.hostOps1_2]) V0 (Proc.devRef .tc main_v30)
      = Host.reduceAdd (V0 (Proc.devRef .tc main_v29_2)) (constant S_ .f32 0x00000000#32) reducesTo_S8x3584_S3584_d0 h_S_ := by
  simp only [Gen.hostOps1, Gen.hostOps1_1, Gen.hostOps1_2, TRef.binary, TRef.unary, TRef.toBuf, TRef.ofBuf, cast_eq, List.flatten_cons, List.flatten_nil, List.append_nil, List.cons_append, List.nil_append]
  after_results <;> rfl
set_option maxHeartbeats 1100000 in
/-- at the scale, which they leave; -/
theorem tail_main_v23 (V0 : Valuation τ sig (Elt F)) :
    after (List.flatten [Gen.hostOps1, Gen.hostOps1_1, Gen.hostOps1_2]) V0 (Proc.devRef .tc main_v23) = V0 (Proc.devRef .tc main_v23) := by
  simp only [Gen.hostOps1, Gen.hostOps1_1, Gen.hostOps1_2, TRef.binary, TRef.unary, TRef.toBuf, TRef.ofBuf, cast_eq, List.flatten_cons, List.flatten_nil, List.append_nil, List.cons_append, List.nil_append]
  after_results <;> rfl
set_option maxHeartbeats 1100000 in
/-- at the new history. -/
theorem tail_main_v34 (V0 : Valuation τ sig (Elt F)) :
    after (List.flatten [Gen.hostOps1, Gen.hostOps1_1, Gen.hostOps1_2]) V0 (Proc.devRef .tc main_v34)
      = newHist (V0 (Proc.devRef .tc main_arg2))
          (Host.reduce FloatOps.maximumf (V0 (Proc.devRef .tc main_v29_3)) (constant S_ .f32 0xFF800000#32) reducesTo_S8x128_S_d0_1 h_S_) := by
  simp only [Gen.hostOps1, Gen.hostOps1_1, Gen.hostOps1_2, TRef.binary, TRef.unary, TRef.toBuf, TRef.ofBuf, cast_eq, List.flatten_cons, List.flatten_nil, List.append_nil, List.cons_append, List.nil_append]
  after_results <;> rfl

/-- The bias gradient at the end. -/
theorem fin_main_v30 (c : Dev nD) :
    Pipeline.afterTail₀ cfgs (dats m) 0 (Gen.V0 m) [Gen.hostOps1, Gen.hostOps1_1, Gen.hostOps1_2] c main_v30
      = Host.reduceAdd (biasAt m c 103 lastPt.isLt) (constant S_ .f32 0x00000000#32) reducesTo_S8x3584_S3584_d0 h_S_ :=
  (tail_main_v30 (exitV m c)).trans (by rw [exit_main_v29_2])
/-- The scale at the end. -/
theorem fin_main_v23 (c : Dev nD) :
    Pipeline.afterTail₀ cfgs (dats m) 0 (Gen.V0 m) [Gen.hostOps1, Gen.hostOps1_1, Gen.hostOps1_2] c main_v23
      = fieldV (expV (histV (m ((c.tc : Thread nD τ).loc main_arg2)))) :=
  (tail_main_v23 (exitV m c)).trans (exit_main_v23 m c)
/-- The new history at the end. -/
theorem fin_main_v34 (c : Dev nD) :
    Pipeline.afterTail₀ cfgs (dats m) 0 (Gen.V0 m) [Gen.hostOps1, Gen.hostOps1_1, Gen.hostOps1_2] c main_v34
      = newHist (m ((c.tc : Thread nD τ).loc main_arg2))
          (Host.reduce FloatOps.maximumf (maxAt m c 103 lastPt.isLt) (constant S_ .f32 0xFF800000#32) reducesTo_S8x128_S_d0_1 h_S_) :=
  (tail_main_v34 (exitV m c)).trans (by rw [exit_main_arg2, exit_main_v29_3])

/-- The inverse scale the kernel body reads. -/
theorem invV_eq (c : Dev nD) :
    invV m c = (fieldV (negi (expV (histV (m ((c.tc : Thread nD τ).loc main_arg2))))) : FVec F S_ .f32) (Shape.Idx.first h_S_) := by
  have h : V m c main_v28 = broadcastInDim S1 ![] bcast_S_S1 (fieldV (negi (expV (histV (m ((c.tc : Thread nD τ).loc main_arg2)))))) := V_main_v28 m c
  unfold invV
  rw [h]
  show (fieldV _ : FVec F S_ .f32) _ = _
  congr 1
  funext a
  exact a.elim0

/-- THE RUN, READ: every weakly fair execution ends with the five results at these terms and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v30)
          = Host.reduceAdd (biasAt m c 103 lastPt.isLt) (constant S_ .f32 0x00000000#32) reducesTo_S8x3584_S3584_d0 h_S_
      ∧ r.2.mem ((c.tc : Thread nD τ).loc main_v29_0)
          = fullRow (invV m c) (m ((c.tc : Thread nD τ).loc main_arg0)) (m ((c.tc : Thread nD τ).loc main_arg1))
      ∧ r.2.mem ((c.tc : Thread nD τ).loc main_v29_1)
          = fullCol (invV m c) (m ((c.tc : Thread nD τ).loc main_arg0)) (m ((c.tc : Thread nD τ).loc main_arg1))
      ∧ r.2.mem ((c.tc : Thread nD τ).loc main_v23) = fieldV (expV (histV (m ((c.tc : Thread nD τ).loc main_arg2))))
      ∧ r.2.mem ((c.tc : Thread nD τ).loc main_v34)
          = newHist (m ((c.tc : Thread nD τ).loc main_arg2))
              (Host.reduce FloatOps.maximumf (maxAt m c 103 lastPt.isLt) (constant S_ .f32 0xFF800000#32) reducesTo_S8x128_S_d0_1 h_S_)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v30 (Pipeline.mem_restRefs_of main_v30 (by decide) (by decide))).trans (fin_main_v30 m c),
      ((h c).1 3).trans (arr3_eq m c),
      ((h c).1 4).trans (arr4_eq m c),
      ((h c).2 main_v23 (Pipeline.mem_restRefs_of main_v23 (by decide) (by decide))).trans (fin_main_v23 m c),
      ((h c).2 main_v34 (Pipeline.mem_restRefs_of main_v34 (by decide) (by decide))).trans (fin_main_v34 m c),
      ((h c).1 1).trans (((dats m 0 c).arrAt_in 1 rfl _).trans ((A_eq m c 1).trans (Gen.V_main_arg0 m c))),
      ((h c).1 2).trans (((dats m 0 c).arrAt_in 2 rfl _).trans ((A_eq m c 2).trans (Gen.V_main_arg1 m c))),
      ((h c).2 main_arg2 (Pipeline.mem_restRefs_of main_arg2 (by decide) (by decide))).trans (Gen.W_main_arg2 m (dats m) c)⟩) (run_main m ρ)

end Cert.KernelIdeal.Hand

end
-- ==== Proof.RArr.lean ====
/-
  The reference program's region, at any float model: its one grid point covers each array whole, so each result array
  ends at the body's payload of the arrays the region finds. And the run with those values.
-/
module

public import proofs.«01_k».proof.Proof.Gen.ReferenceIdeal.Frame
public import proofs.«01_k».proof.Proof.Gen.ReferenceIdeal.Run
public import Idealize.ShloMosaic.Lib.Pipeline.Value
public import Idealize.ShloMosaic.Lib.Tactic
public import Idealize.ShloMosaic.Lib.ValueIdx

@[expose] public section

set_option maxRecDepth 16384

noncomputable section

namespace Cert.ReferenceIdeal.Hand

open Idealize.ShloMosaic Idealize.ShloMosaic.TcCoe
open Idealize.SL Idealize.SL.Sem
open Idealize.ShloMosaic.StableHlo
open Idealize.ShloMosaic.Pipeline (Dat)
open Idealize.ShloMosaic.ValueIdx (ix1 ix2 eq_ix2 idx2_lt0 idx2_lt1)
open Cert.ReferenceIdeal Cert.ReferenceIdeal.Gen

variable {F : FTy → Type} [FloatOps F] [Named F]
variable (m : (ℓ : Loc nD τ sig) → Buf (Elt F) ℓ)

theorem hz : (![0, 0] : Fin 2 → Nat) = fun _ => 0 := funext fun a => by fin_cases a <;> rfl

/-! ## What the body leaves -/

/-- The scale operand's one number. -/
def invOf (x0 : Vec F S1 .f32) : F .f32 := x0 (ix1 (n := 1) 0)

/-- The one-element load of the operand is it. -/
theorem ld_inv (x0 : Vec F S1 .f32) (h : 0 < (⟨1, ![1]⟩ : Shape).numel) :
    View.ld x0 (Rect.unit (s := S1) ![0] ![1] inb_S1_S1_0) (Shape.Idx.first h) = invOf x0 := by
  unfold invOf
  show x0 _ = x0 _
  congr 1
  funext a
  apply Fin.ext
  have : ∀ i : S1.Idx, (i a).val = 0 := fun i => by
    match a with
    | ⟨0, _⟩ => have h : (i 0).val < 1 := (i 0).isLt; exact Nat.lt_one_iff.mp h
  rw [this]
  exact (this _).symm

/-- The gradient block is the gradient payload of the two input blocks, -/
theorem out_3 (c : Dev nD) (a0 : Memref sig .tc .smem S1 .f32) (h0 : a0.IsWhole) (a1 : Memref sig .tc .vmem S53248x3584 .bf16) (h1 : a1.IsWhole)
    (a2 : Memref sig .tc .vmem S53248x3584 .bf16) (h2 : a2.IsWhole) (a3 : Memref sig .tc .vmem S53248x3584 .f32) (h3 : a3.IsWhole)
    (a4 : Memref sig .tc .vmem S53248x3584 .fp8e5m2) (h4 : a4.IsWhole) (a5 : Memref sig .tc .vmem S3584x53248 .fp8e5m2) (h5 : a5.IsWhole)
    (x0 : Vec F S1 .f32) (x1 x2 : Vec F S53248x3584 .bf16) :
    out0_A_3 c a0 h0 a1 h1 a2 h2 a3 h3 a4 h4 a5 h5 x0 x1 x2 = k0_pay2 x1 x2 := by
  unfold out0_A_3
  rw [View.read_writes_eq_canon _ _ _ (cover0_A_3 c a0 h0 a1 h1 a2 h2 a3 h3 a4 h4 a5 h5 x0 x1 x2)]
  unfold kernelRun0_A
  dsimp only
  rw [View.canon_unit_zero hz]
  simp only [View.readAt_eq_ld, h1.read_unread, h2.read_unread, View.ld_unit_zero (S := S53248x3584) hz]

/-- the code block the code payload of them at the scale, -/
theorem out_4 (c : Dev nD) (a0 : Memref sig .tc .smem S1 .f32) (h0 : a0.IsWhole) (a1 : Memref sig .tc .vmem S53248x3584 .bf16) (h1 : a1.IsWhole)
    (a2 : Memref sig .tc .vmem S53248x3584 .bf16) (h2 : a2.IsWhole) (a3 : Memref sig .tc .vmem S53248x3584 .f32) (h3 : a3.IsWhole)
    (a4 : Memref sig .tc .vmem S53248x3584 .fp8e5m2) (h4 : a4.IsWhole) (a5 : Memref sig .tc .vmem S3584x53248 .fp8e5m2) (h5 : a5.IsWhole)
    (x0 : Vec F S1 .f32) (x1 x2 : Vec F S53248x3584 .bf16) :
    out0_A_4 c a0 h0 a1 h1 a2 h2 a3 h3 a4 h4 a5 h5 x0 x1 x2 = k0_pay3 x1 x2 (invOf x0) := by
  unfold out0_A_4
  rw [View.read_writes_eq_canon _ _ _ (cover0_A_4 c a0 h0 a1 h1 a2 h2 a3 h3 a4 h4 a5 h5 x0 x1 x2)]
  unfold kernelRun0_A
  dsimp only
  rw [View.canon_unit_zero hz]
  sl_unfold_words
  simp only [View.readAt_eq_ld, h1.read_unread, h2.read_unread, h0.read_unread, View.ld_unit_zero (S := S53248x3584) hz]
  rw [ld_inv]

/-- and the transposed block its transpose. -/
theorem out_5 (c : Dev nD) (a0 : Memref sig .tc .smem S1 .f32) (h0 : a0.IsWhole) (a1 : Memref sig .tc .vmem S53248x3584 .bf16) (h1 : a1.IsWhole)
    (a2 : Memref sig .tc .vmem S53248x3584 .bf16) (h2 : a2.IsWhole) (a3 : Memref sig .tc .vmem S53248x3584 .f32) (h3 : a3.IsWhole)
    (a4 : Memref sig .tc .vmem S53248x3584 .fp8e5m2) (h4 : a4.IsWhole) (a5 : Memref sig .tc .vmem S3584x53248 .fp8e5m2) (h5 : a5.IsWhole)
    (x0 : Vec F S1 .f32) (x1 x2 : Vec F S53248x3584 .bf16) :
    out0_A_5 c a0 h0 a1 h1 a2 h2 a3 h3 a4 h4 a5 h5 x0 x1 x2 = k0_pay1 (k0_pay3 x1 x2 (invOf x0)) := by
  unfold out0_A_5
  rw [View.read_writes_eq_canon _ _ _ (cover0_A_5 c a0 h0 a1 h1 a2 h2 a3 h3 a4 h4 a5 h5 x0 x1 x2)]
  unfold kernelRun0_A
  dsimp only
  rw [View.canon_unit_zero hz]
  sl_unfold_words
  simp only [View.readAt_eq_ld, h1.read_unread, h2.read_unread, h0.read_unread, View.ld_unit_zero (S := S53248x3584) hz]
  rw [ld_inv]

/-! ## The input blocks -/

theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel

/-- The gradient's block is the first argument, -/
theorem iblk1_eq (c : Dev nD) (t : Fin cfg0.N) : iblk m c 1 t = m ((c.tc : Thread nD τ).loc main_arg0) := by
  funext y
  unfold iblk
  rw [View.read_apply]
  show V m c main_arg0 _ = _
  rw [V_main_arg0]
  congr 1
  funext a
  apply Fin.ext
  match a with
  | ⟨0, _⟩ => show win0_1.index t 0 * 53248 + 1 * (y 0).val = (y 0).val; rw [(index1 t).1]; omega
  | ⟨1, _⟩ => show win0_1.index t 1 * 3584 + 1 * (y 1).val = (y 1).val; rw [(index1 t).2]; omega

/-- and the activation's the second. -/
theorem iblk2_eq (c : Dev nD) (t : Fin cfg0.N) : iblk m c 2 t = m ((c.tc : Thread nD τ).loc main_arg1) := by
  funext y
  unfold iblk
  rw [View.read_apply]
  show V m c main_arg1 _ = _
  rw [V_main_arg1]
  congr 1
  funext a
  apply Fin.ext
  match a with
  | ⟨0, _⟩ => show win0_2.index t 0 * 53248 + 1 * (y 0).val = (y 0).val; rw [(index2 t).1]; omega
  | ⟨1, _⟩ => show win0_2.index t 1 * 3584 + 1 * (y 1).val = (y 1).val; rw [(index2 t).2]; omega

/-- The scale operand, as the region finds it. -/
def invV (c : Dev nD) : F .f32 := (V m c main_v18 : S1.Idx → F .f32) (ix1 (n := 1) 0)

/-- The point's scale block is it. -/
theorem iblk0_eq (c : Dev nD) (t : Fin cfg0.N) : invOf (iblk m c 0 t) = invV m c := by
  unfold invOf iblk
  rw [View.read_apply]
  show V m c main_v18 _ = V m c main_v18 _
  congr 1
  funext a
  apply Fin.ext
  have : ∀ i : S1.Idx, (i a).val = 0 := fun i => by
    match a with
    | ⟨0, _⟩ => have h : (i 0).val < 1 := (i 0).isLt; exact Nat.lt_one_iff.mp h
  rw [this]
  exact (this _).symm

/-! ## The result arrays -/

/-- The gradient array ends at the gradient payload of the arguments, -/
theorem arr3_eq (c : Dev nD) : (dats m 0 c).arrAt 3 cfg0.N
    = (k0_pay2 (m ((c.tc : Thread nD τ).loc main_arg0)) (m ((c.tc : Thread nD τ).loc main_arg1)) : FVec F S53248x3584 .f32) := by
  generalize hX : (k0_pay2 (m ((c.tc : Thread nD τ).loc main_arg0)) (m ((c.tc : Thread nD τ).loc main_arg1)) : FVec F S53248x3584 .f32) = X
  refine (dats m 0 c).arrAt_eq_of_cover 3 X (fun t _ => ?_) fun i => ?_
  · show (cfg0.win 3).cut (grid0.coords t) ((dats m 0 c).after 3 t) = _
    rw [after0_3]
    unfold outsAt0
    dsimp only
    rw [out_3, iblk1_eq, iblk2_eq, hX]
    funext y
    rw [View.read_apply]
    show X _ = X _
    congr 1
    funext a
    apply Fin.ext
    match a with
    | ⟨0, _⟩ => show (y 0).val = win0_3.index t 0 * 53248 + 1 * (y 0).val; rw [(index3 t).1]; omega
    | ⟨1, _⟩ => show (y 1).val = win0_3.index t 1 * 3584 + 1 * (y 1).val; rw [(index3 t).2]; omega
  · refine ⟨t0_0, flush0_3 t0_0, ?_⟩
    have h0 : (i 0 : Nat) < 53248 := (i 0).isLt
    have h1 : (i 1 : Nat) < 3584 := (i 1).isLt
    show i ∈ ((View.whole main_v19_0).slice (win0_3.rect t0_0)).set
    rw [View.set_slice_whole, Rect.mem_set_unit]
    intro a
    match a with
    | ⟨0, _⟩ => show win0_3.index t0_0 0 * 53248 ≤ (i 0 : Nat) ∧ (i 0 : Nat) < win0_3.index t0_0 0 * 53248 + 53248
                rw [(index3 t0_0).1]; omega
    | ⟨1, _⟩ => show win0_3.index t0_0 1 * 3584 ≤ (i 1 : Nat) ∧ (i 1 : Nat) < win0_3.index t0_0 1 * 3584 + 3584
                rw [(index3 t0_0).2]; omega

/-- the code array at the code payload, -/
theorem arr4_eq (c : Dev nD) : (dats m 0 c).arrAt 4 cfg0.N
    = (k0_pay3 (m ((c.tc : Thread nD τ).loc main_arg0)) (m ((c.tc : Thread nD τ).loc main_arg1)) (invV m c) : FVec F S53248x3584 .fp8e5m2) := by
  generalize hX : (k0_pay3 (m ((c.tc : Thread nD τ).loc main_arg0)) (m ((c.tc : Thread nD τ).loc main_arg1)) (invV m c) : FVec F S53248x3584 .fp8e5m2) = X
  refine (dats m 0 c).arrAt_eq_of_cover 4 X (fun t _ => ?_) fun i => ?_
  · show (cfg0.win 4).cut (grid0.coords t) ((dats m 0 c).after 4 t) = _
    rw [after0_4]
    unfold outsAt0
    dsimp only
    rw [out_4, iblk0_eq, iblk1_eq, iblk2_eq, hX]
    funext y
    rw [View.read_apply]
    show X _ = X _
    congr 1
    funext a
    apply Fin.ext
    match a with
    | ⟨0, _⟩ => show (y 0).val = win0_4.index t 0 * 53248 + 1 * (y 0).val; rw [(index4 t).1]; omega
    | ⟨1, _⟩ => show (y 1).val = win0_4.index t 1 * 3584 + 1 * (y 1).val; rw [(index4 t).2]; omega
  · refine ⟨t0_0, flush0_4 t0_0, ?_⟩
    have h0 : (i 0 : Nat) < 53248 := (i 0).isLt
    have h1 : (i 1 : Nat) < 3584 := (i 1).isLt
    show i ∈ ((View.whole main_v19_1).slice (win0_4.rect t0_0)).set
    rw [View.set_slice_whole, Rect.mem_set_unit]
    intro a
    match a with
    | ⟨0, _⟩ => show win0_4.index t0_0 0 * 53248 ≤ (i 0 : Nat) ∧ (i 0 : Nat) < win0_4.index t0_0 0 * 53248 + 53248
                rw [(index4 t0_0).1]; omega
    | ⟨1, _⟩ => show win0_4.index t0_0 1 * 3584 ≤ (i 1 : Nat) ∧ (i 1 : Nat) < win0_4.index t0_0 1 * 3584 + 3584
                rw [(index4 t0_0).2]; omega

/-- and the transposed array at its transpose. -/
theorem arr5_eq (c : Dev nD) : (dats m 0 c).arrAt 5 cfg0.N
    = (k0_pay1 (k0_pay3 (m ((c.tc : Thread nD τ).loc main_arg0)) (m ((c.tc : Thread nD τ).loc main_arg1)) (invV m c)) : FVec F S3584x53248 .fp8e5m2) := by
  generalize hX : (k0_pay1 (k0_pay3 (m ((c.tc : Thread nD τ).loc main_arg0)) (m ((c.tc : Thread nD τ).loc main_arg1)) (invV m c)) : FVec F S3584x53248 .fp8e5m2) = X
  refine (dats m 0 c).arrAt_eq_of_cover 5 X (fun t _ => ?_) fun i => ?_
  · show (cfg0.win 5).cut (grid0.coords t) ((dats m 0 c).after 5 t) = _
    rw [after0_5]
    unfold outsAt0
    dsimp only
    rw [out_5, iblk0_eq, iblk1_eq, iblk2_eq, hX]
    funext y
    rw [View.read_apply]
    show X _ = X _
    congr 1
    funext a
    apply Fin.ext
    match a with
    | ⟨0, _⟩ => show (y 0).val = win0_5.index t 0 * 3584 + 1 * (y 0).val; rw [(index5 t).1]; omega
    | ⟨1, _⟩ => show (y 1).val = win0_5.index t 1 * 53248 + 1 * (y 1).val; rw [(index5 t).2]; omega
  · refine ⟨t0_0, flush0_5 t0_0, ?_⟩
    have h0 : (i 0 : Nat) < 3584 := (i 0).isLt
    have h1 : (i 1 : Nat) < 53248 := (i 1).isLt
    show i ∈ ((View.whole main_v19_2).slice (win0_5.rect t0_0)).set
    rw [View.set_slice_whole, Rect.mem_set_unit]
    intro a
    match a with
    | ⟨0, _⟩ => show win0_5.index t0_0 0 * 3584 ≤ (i 0 : Nat) ∧ (i 0 : Nat) < win0_5.index t0_0 0 * 3584 + 3584
                rw [(index5 t0_0).1]; omega
    | ⟨1, _⟩ => show win0_5.index t0_0 1 * 53248 ≤ (i 1 : Nat) ∧ (i 1 : Nat) < win0_5.index t0_0 1 * 53248 + 53248
                rw [(index5 t0_0).2]; omega

/-! ## The host lines -/

/-- The maximum of the history. -/
def histV (h : FVec F S16 .f32) : FVec F S_ .f32 :=
  Host.reduce FloatOps.maximumf h (constant S_ .f32 0xFF800000#32) reducesTo_S16_S_d0 h_S_

/-- The size: the maximum over 57344, absolute. -/
def sizeV (a : FVec F S_ .f32) : FVec F S_ .f32 := Host.absf (mulf a (constant S_ .f32 0x37924925#32))

/-- The exponent of a size. -/
def expV (z : FVec F S_ .f32) : FVec F S_ .f32 :=
  select (andi (cmpf .oge z (constant S_ .f32 0x00800000#32)) (cmpf .olt z (constant S_ .f32 0x7F800000#32)))
    (minimumf (addf (Host.floor (Host.divf (Host.log z) (Host.log (constant S_ .f32 0x40000000#32)))) (constant S_ .f32 0x3F800000#32))
      (constant S_ .f32 0x42E20000#32)) (id (constant S_ .f32 0x00000000#32))

/-- Two to a power. -/
def pow2V (e : FVec F S_ .f32) : FVec F S_ .f32 := Host.exp (mulf e (Host.log (constant S_ .f32 0x40000000#32)))

/-- The history moved on by one, with a new first entry. -/
def newHist (h : FVec F S16 .f32) (a : FVec F S_ .f32) : FVec F S16 .f32 :=
  Host.scatter scatter_S16_S1_S__n_0_0_0 (fun _ b => b)
    (concatenate S16 0 [⟨S1, extractStridedSlice S1 ![15] h slices_S16_S1_15⟩, ⟨S15, extractStridedSlice S15 ![0] h slices_S16_S15_0⟩]
      concatenates_S1_S15_S16_d0)
    (broadcastInDim S1 ![] bcast_S_S1 (constantI S_ 32 0#32)) a

set_option maxHeartbeats 2000000 in
/-- What the region finds in the inverse scale's operand. -/
theorem V_main_v18 (c : Dev nD) : Gen.V0 m c (Proc.devRef .tc main_v18)
    = broadcastInDim S1 ![] bcast_S_S1 (pow2V (Host.negf (expV (sizeV (histV (m ((c.tc : Thread nD τ).loc main_arg2))))))) := by
  simp only [Gen.V0, Gen.hostOps0, Gen.hostOps0_1, Gen.hostOps0_2, TRef.ternary, TRef.unary, TRef.toBuf, TRef.ofBuf, cast_eq, List.flatten_cons, List.flatten_nil, List.append_nil, List.cons_append, List.nil_append]
  after_results <;> rfl

/-- The inverse scale the body reads. -/
theorem invV_eq (c : Dev nD) :
    invV m c = (pow2V (Host.negf (expV (sizeV (histV (m ((c.tc : Thread nD τ).loc main_arg2)))))) : FVec F S_ .f32) (Shape.Idx.first h_S_) := by
  have h : V m c main_v18 = broadcastInDim S1 ![] bcast_S_S1 (pow2V (Host.negf (expV (sizeV (histV (m ((c.tc : Thread nD τ).loc main_arg2))))))) := V_main_v18 m c
  unfold invV
  rw [h]
  show (pow2V _ : FVec F S_ .f32) _ = _
  congr 1
  funext a
  exact a.elim0

/-- THE RUN, READ: every weakly fair execution ends with the five results at these terms and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v20)
          = Host.reduceAdd (k0_pay2 (m ((c.tc : Thread nD τ).loc main_arg0)) (m ((c.tc : Thread nD τ).loc main_arg1)))
              (constant S_ .f32 0x00000000#32) reducesTo_S53248x3584_S3584_d0 h_S_
      ∧ r.2.mem ((c.tc : Thread nD τ).loc main_v19_1)
          = k0_pay3 (m ((c.tc : Thread nD τ).loc main_arg0)) (m ((c.tc : Thread nD τ).loc main_arg1)) (invV m c)
      ∧ r.2.mem ((c.tc : Thread nD τ).loc main_v19_2)
          = k0_pay1 (k0_pay3 (m ((c.tc : Thread nD τ).loc main_arg0)) (m ((c.tc : Thread nD τ).loc main_arg1)) (invV m c))
      ∧ r.2.mem ((c.tc : Thread nD τ).loc main_v14) = pow2V (expV (sizeV (histV (m ((c.tc : Thread nD τ).loc main_arg2)))))
      ∧ r.2.mem ((c.tc : Thread nD τ).loc main_v25)
          = newHist (m ((c.tc : Thread nD τ).loc main_arg2))
              (Host.reduce FloatOps.maximumf
                (Host.absf (k0_pay2 (m ((c.tc : Thread nD τ).loc main_arg0)) (m ((c.tc : Thread nD τ).loc main_arg1))))
                (constant S_ .f32 0xFF800000#32) reducesTo_S53248x3584_S_d0_1 h_S_)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    have e : Value.reg_main_v19_0 m c = k0_pay2 (m ((c.tc : Thread nD τ).loc main_arg0)) (m ((c.tc : Thread nD τ).loc main_arg1)) := arr3_eq m c
    obtain ⟨h0, h1, h2, h3, h4, h5, h6, h7⟩ := h c
    rw [e] at h0 h4
    exact ⟨h0, h1.trans (arr4_eq m c), h2.trans (arr5_eq m c), h3, h4, h5, h6, h7⟩) (Value.run m ρ)

end Cert.ReferenceIdeal.Hand

end
-- ==== Proof.ScaleVal.lean ====
/-
  The scale and its inverse, in the idealized arithmetic: the two programs' host lines give the same two numbers.
-/
module

public import proofs.«01_k».proof.Proof.Scale
public import proofs.«01_k».proof.Proof.KHost
public import proofs.«01_k».proof.Proof.RArr
public import Idealize.ShloMosaic.Lib.IndicatorCount
public import Idealize.ShloMosaic.Lib.IdealHost
public import Idealize.ShloMosaic.Lib.ValueIdx
public import Idealize.ShloMosaic.Lib.ValueIdxRank1

@[expose] public section

set_option maxRecDepth 16384

noncomputable section

namespace Cert.Hand

open Idealize.ShloMosaic
open Idealize.ShloMosaic.ValueIdx (ix0 ix1 eq_ix1 idxEquiv1)

/-- A scalar has one index. -/
theorem scalarIdx (i j : KernelIdeal.S_.Idx) : i = j := funext fun a => a.elim0

/-- Choosing one or zero by a bit is the bit. -/
theorem select_one_zero : ∀ b : BitVec 1, Scalar.select b (1#32) (0#32) = b.setWidth 32 := by decide

/-- What the kernel's fold adds up, entry by entry: one or zero by whether the power is at most the size. -/
theorem countTerm (z : FVec Ideal KernelIdeal.S_ .f32) (i : KernelIdeal.S_.Idx) (k : KernelIdeal.S239.Idx) :
    (id (select (cmpf .ole (KernelIdeal.Hand.powV (F := Ideal)) (broadcastInDim KernelIdeal.S239 ![] KernelIdeal.Gen.bcast_S_S239 z))
      (broadcastInDim KernelIdeal.S239 ![] KernelIdeal.Gen.bcast_S_S239 (constantI KernelIdeal.S_ 32 1#32))
      (broadcastInDim KernelIdeal.S239 ![] KernelIdeal.Gen.bcast_S_S239 (constantI KernelIdeal.S_ 32 0#32))) : IVec KernelIdeal.S239 32) k
      = (Ideal.cmp .ole (Ideal.ofBits .f32 (powWord (k 0).val)) (z i)).setWidth 32 := by
  rw [← select_one_zero]
  have e : z i = broadcastInDim KernelIdeal.S239 ![] KernelIdeal.Gen.bcast_S_S239 z k := congrArg z (scalarIdx _ _)
  rw [e]
  rfl

/-- The kernel's count is the number of the 239 powers of two that are at most the size. -/
theorem countV_eq (z : FVec Ideal KernelIdeal.S_ .f32) (i : KernelIdeal.S_.Idx) :
    KernelIdeal.Hand.countV z i = BitVec.ofNat 32 (countOf (z i)) := by
  unfold KernelIdeal.Hand.countV
  rw [Host.reduce_eq_fold, Finset.filter_true_of_mem fun k _ => scalarIdx _ _]
  refine (Finset.fold_congr fun k _ => countTerm z i k).trans ?_
  refine (IndicatorCount.fold_addi_setWidth_eq_card (fun k : KernelIdeal.S239.Idx => Ideal.cmp .ole (Ideal.ofBits .f32 (powWord (k 0).val)) (z i)) _).trans ?_
  congr 1
  unfold countOf
  exact Finset.card_equiv idxEquiv1 fun k => by
    simp only [Finset.mem_filter, Finset.mem_univ, true_and]
    rfl

/-- The kernel's exponent is the number `kexp` of the maximum. -/
theorem expV_eq (a : FVec Ideal KernelIdeal.S_ .f32) (i : KernelIdeal.S_.Idx) : KernelIdeal.Hand.expV a i = kexp (a i) := by
  unfold kexp
  have e : KernelIdeal.Hand.countV (KernelIdeal.Hand.sizeV a) i = BitVec.ofNat 32 (countOf (sizeOf (a i))) :=
    countV_eq (KernelIdeal.Hand.sizeV a) i
  rw [← e]
  rfl

/-- The reference's exponent is the number `rexp` of the size. -/
theorem refExp_eq (a : FVec Ideal ReferenceIdeal.S_ .f32) (i : ReferenceIdeal.S_.Idx) :
    ReferenceIdeal.Hand.expV (ReferenceIdeal.Hand.sizeV a) i = rexp (sizeOf (a i)) := rfl

/-- The two maxima of one history are one number. -/
theorem histV_eq (h : FVec Ideal KernelIdeal.S16 .f32) : KernelIdeal.Hand.histV h = ReferenceIdeal.Hand.histV h := rfl

/-- THE SCALES AGREE. -/
theorem scaleV_eq (h : FVec Ideal KernelIdeal.S16 .f32) :
    KernelIdeal.Hand.fieldV (F := Ideal) (KernelIdeal.Hand.expV (KernelIdeal.Hand.histV h))
      = ReferenceIdeal.Hand.pow2V (ReferenceIdeal.Hand.expV (ReferenceIdeal.Hand.sizeV (ReferenceIdeal.Hand.histV h))) := by
  rw [← histV_eq]
  generalize KernelIdeal.Hand.histV h = a
  funext i
  have e := scale_eq (a i)
  rw [← expV_eq a i] at e
  exact e

/-- THE INVERSE SCALES AGREE. -/
theorem inverseV_eq (h : FVec Ideal KernelIdeal.S16 .f32) :
    KernelIdeal.Hand.fieldV (F := Ideal) (negi (KernelIdeal.Hand.expV (KernelIdeal.Hand.histV h)))
      = ReferenceIdeal.Hand.pow2V (Host.negf (ReferenceIdeal.Hand.expV (ReferenceIdeal.Hand.sizeV (ReferenceIdeal.Hand.histV h)))) := by
  rw [← histV_eq]
  generalize KernelIdeal.Hand.histV h = a
  funext i
  have e := inv_eq (a i)
  rw [← expV_eq a i] at e
  exact e

end Cert.Hand

end
-- ==== Proof.Gelu.lean ====
/-
  The one analytic identity of the certificate: the kernel's factored form of the gradient and the textbook form are the
  same extended real, for every pair of extended reals, infinities included.
-/
module

public import Idealize.ShloMosaic.PureOps.Ideal
public import Idealize.ShloMosaic.PureOps.IdealRules

@[expose] public section

noncomputable section

namespace Cert.Hand

open Idealize.ShloMosaic

/-- The constant `√(2/π)` of the tanh form of GELU. -/
def geluK : ℝ := Real.sqrt (2 * Real.pi⁻¹)

/-- It is positive. -/
theorem geluK_pos : 0 < geluK := Real.sqrt_pos.mpr (mul_pos two_pos (inv_pos.mpr Real.pi_pos))

/-- The kernel's form of the gradient. -/
def kernelForm (g v : EReal) : EReal :=
  g * ((((3 / 2 : ℝ) : EReal) + ((3 / 2 : ℝ) : EReal)
      * Ideal.tanh (v * (((geluK * (8943 / 200000) : ℝ) : EReal) * (v * v) + ((geluK : ℝ) : EReal))))
    * ((((((1 : ℝ) : EReal) - Ideal.tanh (v * (((geluK * (8943 / 200000) : ℝ) : EReal) * (v * v) + ((geluK : ℝ) : EReal)))) * v)
        * (((geluK * (8943 / 200000) : ℝ) : EReal) * (v * v) + ((geluK * (1 / 3) : ℝ) : EReal)))
      + ((1 / 3 : ℝ) : EReal)))

/-- The textbook form: `g · (½(1 + t) + ½ v (1 − t²) K (1 + 3 C v²))` with `t = tanh (K (v + C v³))`. -/
def textForm (g v : EReal) : EReal :=
  g * (((1 / 2 : ℝ) : EReal) * (((1 : ℝ) : EReal) + Ideal.tanh (((geluK : ℝ) : EReal) * (v + ((8943 / 200000 : ℝ) : EReal) * (v * v) * v)))
    + ((1 / 2 : ℝ) : EReal) * v
        * (((1 : ℝ) : EReal) - Ideal.tanh (((geluK : ℝ) : EReal) * (v + ((8943 / 200000 : ℝ) : EReal) * (v * v) * v))
          * Ideal.tanh (((geluK : ℝ) : EReal) * (v + ((8943 / 200000 : ℝ) : EReal) * (v * v) * v)))
        * ((geluK : ℝ) : EReal)
        * (((1 : ℝ) : EReal) + ((26829 / 200000 : ℝ) : EReal) * (v * v)))

/-- The two forms agree at a finite point. -/
theorem forms_coe (g : EReal) (v : ℝ) : kernelForm g v = textForm g v := by
  unfold kernelForm textForm
  simp only [← EReal.coe_mul, ← EReal.coe_add, ← EReal.coe_sub, Ideal.tanh_coe]
  congr 2
  rw [show v * (geluK * (8943 / 200000) * (v * v) + geluK) = geluK * (v + 8943 / 200000 * (v * v) * v) by ring]
  ring

/-- They agree at `+∞`, where both factors are 1; -/
theorem forms_top (g : EReal) : kernelForm g ⊤ = textForm g ⊤ := by
  have hK := geluK_pos
  have hKC : 0 < geluK * (8943 / 200000) := by positivity
  unfold kernelForm textForm
  rw [EReal.top_mul_top, EReal.coe_mul_top_of_pos hKC, EReal.coe_mul_top_of_pos (by norm_num : (0 : ℝ) < 8943 / 200000),
    EReal.top_mul_top, EReal.top_add_top, EReal.top_add_coe, EReal.top_add_coe, EReal.top_mul_top, EReal.coe_mul_top_of_pos hK,
    Ideal.tanh_top]
  have h0 : ((1 : ℝ) : EReal) - 1 = 0 := by rw [show (1 : EReal) = ((1 : ℝ) : EReal) from rfl, ← EReal.coe_sub]; norm_num
  rw [mul_one (1 : EReal), h0, zero_mul, zero_mul, mul_zero, zero_mul, zero_mul]
  rw [show (1 : EReal) = ((1 : ℝ) : EReal) from rfl, show (0 : EReal) = ((0 : ℝ) : EReal) from rfl]
  simp only [← EReal.coe_mul, ← EReal.coe_add]
  norm_num

/-- and at `−∞`, where both factors are 0. -/
theorem forms_bot (g : EReal) : kernelForm g ⊥ = textForm g ⊥ := by
  have hK := geluK_pos
  have hKC : 0 < geluK * (8943 / 200000) := by positivity
  unfold kernelForm textForm
  rw [EReal.bot_mul_bot, EReal.coe_mul_top_of_pos hKC, EReal.coe_mul_top_of_pos (by norm_num : (0 : ℝ) < 8943 / 200000),
    EReal.top_mul_bot, EReal.top_add_coe, EReal.top_add_coe, EReal.bot_mul_top, EReal.bot_add, EReal.coe_mul_bot_of_pos hK,
    Ideal.tanh_bot]
  have h0 : ((1 : ℝ) : EReal) - (-1) * (-1) = 0 := by
    rw [show (-1 : EReal) = ((-1 : ℝ) : EReal) from rfl, ← EReal.coe_mul, ← EReal.coe_sub]; norm_num
  have h1 : ((1 : ℝ) : EReal) + (-1) = 0 := by
    rw [show (-1 : EReal) = ((-1 : ℝ) : EReal) from rfl, ← EReal.coe_add]; norm_num
  have h2 : ((3 / 2 : ℝ) : EReal) + ((3 / 2 : ℝ) : EReal) * (-1) = 0 := by
    rw [show (-1 : EReal) = ((-1 : ℝ) : EReal) from rfl, ← EReal.coe_mul, ← EReal.coe_add]; norm_num
  simp only [h0, h1, h2, zero_mul, mul_zero, add_zero]

/-- The kernel's form is the textbook form, everywhere. -/
theorem kernelForm_eq (g v : EReal) : kernelForm g v = textForm g v := by
  induction v with
  | bot => exact forms_bot g
  | top => exact forms_top g
  | coe v => exact forms_coe g v

end Cert.Hand

end
-- ==== Proof.Point.lean ====
/-
  One element, in the idealized arithmetic: what the two programs' gradient and code payloads are at one index.
-/
module

public import proofs.«01_k».proof.Proof.Gelu
public import proofs.«01_k».proof.Proof.KTile
public import proofs.«01_k».proof.Proof.Gen.ReferenceIdeal.Skeleton

@[expose] public section

set_option maxRecDepth 16384

noncomputable section

namespace Cert.Hand

open Idealize.ShloMosaic

/-! ## The constants -/

theorem ofBits_half : Ideal.ofBits .f32 0x3F000000#32 = ((1 / 2 : ℝ) : EReal) := by
  simp [Ideal.ofBits, Ideal.ieee, -EReal.coe_mul] <;> norm_num
theorem ofBits_one' : Ideal.ofBits .f32 0x3F800000#32 = ((1 : ℝ) : EReal) := by
  simp [Ideal.ofBits, Ideal.ieee, -EReal.coe_mul] <;> norm_num
theorem ofBits_threeHalves : Ideal.ofBits .f32 0x3FC00000#32 = ((3 / 2 : ℝ) : EReal) := by
  simp [Ideal.ofBits, Ideal.ieee, -EReal.coe_mul] <;> norm_num

/-! ## The gradient -/

/-- The kernel's gradient of one element is the kernel's form. -/
theorem kernel_dg (g v : Ideal .bf16) : KernelIdeal.Hand.dg (F := Ideal) g v = kernelForm g v := by
  have e : KernelIdeal.Hand.dg (F := Ideal) g v = (g : EReal) * ((Ideal.ofBits .f32 0x3FC00000#32 + Ideal.ofBits .f32 0x3FC00000#32
      * Ideal.tanh ((v : EReal) * (((geluK * (8943 / 200000) : ℝ) : EReal) * ((v : EReal) * v) + ((geluK : ℝ) : EReal))))
    * ((((Ideal.ofBits .f32 0x3F800000#32 - Ideal.tanh ((v : EReal) * (((geluK * (8943 / 200000) : ℝ) : EReal) * ((v : EReal) * v) + ((geluK : ℝ) : EReal)))) * v)
        * (((geluK * (8943 / 200000) : ℝ) : EReal) * ((v : EReal) * v) + ((geluK * (1 / 3) : ℝ) : EReal)))
      + ((1 / 3 : ℝ) : EReal))) := rfl
  rw [e, ofBits_one', ofBits_threeHalves]
  rfl

/-- The reference's gradient at an index is the textbook form of the two arguments there. -/
theorem reference_dg (x y : Vec Ideal ReferenceIdeal.S53248x3584 .bf16) (i : ReferenceIdeal.S53248x3584.Idx) :
    ReferenceIdeal.Gen.k0_pay2 (F := Ideal) x y i = textForm (x i) (y i) := by
  have e : ReferenceIdeal.Gen.k0_pay2 (F := Ideal) x y i = (x i : EReal) * (Ideal.ofBits .f32 0x3F000000#32 * (Ideal.ofBits .f32 0x3F800000#32 + Ideal.tanh (((geluK : ℝ) : EReal) * ((y i : EReal) + ((8943 / 200000 : ℝ) : EReal) * ((y i : EReal) * y i) * y i)))
    + Ideal.ofBits .f32 0x3F000000#32 * (y i : EReal)
        * (Ideal.ofBits .f32 0x3F800000#32 - Ideal.tanh (((geluK : ℝ) : EReal) * ((y i : EReal) + ((8943 / 200000 : ℝ) : EReal) * ((y i : EReal) * y i) * y i))
          * Ideal.tanh (((geluK : ℝ) : EReal) * ((y i : EReal) + ((8943 / 200000 : ℝ) : EReal) * ((y i : EReal) * y i) * y i)))
        * ((geluK : ℝ) : EReal)
        * (Ideal.ofBits .f32 0x3F800000#32 + ((26829 / 200000 : ℝ) : EReal) * ((y i : EReal) * y i))) := rfl
  rw [e, ofBits_one', ofBits_half]
  rfl

/-! ## The code -/

/-- The code of a gradient at an inverse scale: multiply, clip to the format's range, convert. -/
def codeForm (s r : EReal) : EReal :=
  min (Ideal.ofBits .f32 0x47600000#32) (max (Ideal.ofBits .f32 0xC7600000#32) (r * s))

theorem kernel_code (s r : Ideal .f32) : KernelIdeal.Hand.code (F := Ideal) s r = codeForm s r := rfl

theorem reference_code (x y : Vec Ideal ReferenceIdeal.S53248x3584 .bf16) (s : Ideal .f32) (i : ReferenceIdeal.S53248x3584.Idx) :
    ReferenceIdeal.Gen.k0_pay3 (F := Ideal) x y s i = codeForm s (ReferenceIdeal.Gen.k0_pay2 (F := Ideal) x y i) := rfl

end Cert.Hand

end
-- ==== Proof.Results.lean ====
/-
  The five results, in the idealized arithmetic: from equal arguments the kernel's terms and the reference's are equal.
-/
module

public import proofs.«01_k».proof.Defs
public import proofs.«01_k».proof.Proof.Folds
public import proofs.«01_k».proof.Proof.ScaleVal
public import proofs.«01_k».proof.Proof.Point

@[expose] public section

set_option maxRecDepth 16384

noncomputable section

namespace Cert.Hand

open Idealize.ShloMosaic Idealize.ShloMosaic.TcCoe Idealize.SL.Sem
open Idealize.ShloMosaic.ValueIdx (ix0 ix1 ix2 eq_ix1 eq_ix2 idx2_lt0 idx2_lt1)
open Cert.KernelIdeal.Hand (grads elt elt_eq gradsOf)

/-! ## One element -/

/-- The kernel's gradients are the reference's. -/
theorem grads_eq (G X : KernelIdeal.S53248x3584.Idx → Ideal .bf16) :
    grads G X = ReferenceIdeal.Gen.k0_pay2 (F := Ideal) G X := by
  funext i
  refine (kernel_dg (G i) (X i)).trans ((kernelForm_eq (G i) (X i)).trans ?_)
  exact (reference_dg G X i).symm

/-- The kernel's codes are the reference's, -/
theorem codes_eq (s : Ideal .f32) (G X : KernelIdeal.S53248x3584.Idx → Ideal .bf16) :
    KernelIdeal.Hand.fullRow (F := Ideal) s G X = ReferenceIdeal.Gen.k0_pay3 (F := Ideal) G X s := by
  funext i
  refine Eq.trans ?_ (reference_code G X s i).symm
  rw [← grads_eq]
  exact kernel_code s _

/-- and so are the transposed ones. -/
theorem codesT_eq (s : Ideal .f32) (G X : KernelIdeal.S53248x3584.Idx → Ideal .bf16) :
    KernelIdeal.Hand.fullCol (F := Ideal) s G X = ReferenceIdeal.Gen.k0_pay1 (F := Ideal) (ReferenceIdeal.Gen.k0_pay3 (F := Ideal) G X s) := by
  funext i
  rw [← codes_eq]
  refine (transpose_apply _ _ _ i (ix2 (n0 := 53248) (n1 := 3584) (i 1) (i 0)) ?_).symm
  intro a
  match a with
  | ⟨0, _⟩ => rfl
  | ⟨1, _⟩ => rfl

/-! ## The bias gradient -/

/-- A sum over blocks of a sum within the block is the sum over all. -/
theorem sum_blocks (n : ℕ) (f : ℕ → EReal) : ∀ k : ℕ,
    ∑ a ∈ Finset.range k, ∑ b ∈ Finset.range n, f (n * a + b) = ∑ r ∈ Finset.range (n * k), f r
  | 0 => by simp
  | k + 1 => by rw [Finset.sum_range_succ, sum_blocks n f k, Nat.mul_succ, Finset.sum_range_add]

/-- The order the kernel meets rows in, summed, is all 53248 rows. -/
theorem sum_rows (f : ℕ → EReal) :
    ∑ j ∈ Finset.range 8, ∑ t ∈ Finset.range 104, ∑ i ∈ Finset.range 4, ∑ g ∈ Finset.range 16, f (512 * t + (128 * i + (8 * g + j)))
      = ∑ r ∈ Finset.range 53248, f r := by
  rw [Finset.sum_comm]
  refine Eq.trans (Finset.sum_congr rfl fun t _ => ?_) (sum_blocks 512 f 104)
  rw [Finset.sum_comm]
  refine Eq.trans (Finset.sum_congr rfl fun i _ => ?_) (sum_blocks 128 (fun r => f (512 * t + r)) 4)
  rw [Finset.sum_comm]
  exact sum_blocks 8 (fun r => f (512 * t + (128 * i + r))) 16

section

variable (m : (ℓ : Loc KernelIdeal.nD KernelIdeal.τ KernelIdeal.sig) → Buf (Elt Ideal) ℓ) (c : Dev KernelIdeal.nD)

/-- THE BIAS GRADIENTS AGREE: the kernel's partials, folded, are the column sums of the gradients. -/
theorem dbias_eq :
    Host.reduceAdd (F := Ideal) (φ := .f32) (KernelIdeal.Hand.biasAt m c 103 KernelIdeal.Hand.lastPt.isLt) (constant (F := Ideal) KernelIdeal.S_ .f32 0x00000000#32)
        KernelIdeal.Gen.reducesTo_S8x3584_S3584_d0 KernelIdeal.Gen.h_S_
      = Host.reduceAdd (F := Ideal) (φ := .f32) (gradsOf m c) (constant (F := Ideal) ReferenceIdeal.S_ .f32 0x00000000#32)
          ReferenceIdeal.Gen.reducesTo_S53248x3584_S3584_d0 ReferenceIdeal.Gen.h_S_ := by
  funext l
  rw [ValueIdx.hostReduceAdd_apply, ValueIdx.hostReduceAdd_apply,
    Ideal.hostReduceAdd_single KernelIdeal.Gen.reducesTo_S8x3584_S3584_d0 (by decide),
    Ideal.hostReduceAdd_single ReferenceIdeal.Gen.reducesTo_S53248x3584_S3584_d0 (by decide)]
  refine congrArg₂ (fun a b : EReal => a + b) rfl ?_
  refine Eq.trans ?_ ((sum_rows fun r => elt (gradsOf m c) r (l 0).val).trans ?_)
  · rw [Finset.sum_range]
    refine Finset.sum_congr rfl fun j _ => ?_
    exact KernelIdeal.Hand.biasAt_eq m c _ 103 _
  · rw [Finset.sum_range]
    refine Finset.sum_congr rfl fun r _ => ?_
    exact elt_eq _ _ _ _ rfl rfl

/-! ## The new maximum -/

/-- The reference's maximum, by its upper bounds. -/
theorem refMax_le (e : KernelIdeal.S53248x3584.Idx → EReal) (i : ReferenceIdeal.S_.Idx) (b : EReal) :
    (Host.reduce (α := Ideal .f32) (FloatOps.maximumf (F := Ideal) (φ := .f32)) (Host.absf (F := Ideal) (φ := .f32) (s := ReferenceIdeal.S53248x3584) e) (constant (F := Ideal) ReferenceIdeal.S_ .f32 0xFF800000#32)
        ReferenceIdeal.Gen.reducesTo_S53248x3584_S_d0_1 ReferenceIdeal.Gen.h_S_ i : EReal) ≤ b
      ↔ ∀ k, max (e k) (-(e k)) ≤ b := by
  rw [Host.reduce_eq_fold, Finset.filter_true_of_mem fun k _ => scalarIdx _ _]
  refine (Finset.fold_max_le _).trans ?_
  refine ⟨fun h k => h.2 k (Finset.mem_univ _), fun h => ⟨?_, fun k _ => h k⟩⟩
  exact le_of_eq_of_le ofBits_ninf bot_le

/-- The kernel's last fold of the running maximum, by its upper bounds. -/
theorem kerMax_le (a : KernelIdeal.S8x128.Idx → EReal) (i : KernelIdeal.S_.Idx) (b : EReal) :
    (Host.reduce (α := Ideal .f32) (FloatOps.maximumf (F := Ideal) (φ := .f32)) a (constant (F := Ideal) KernelIdeal.S_ .f32 0xFF800000#32)
        KernelIdeal.Gen.reducesTo_S8x128_S_d0_1 KernelIdeal.Gen.h_S_ i : EReal) ≤ b
      ↔ ∀ j, a j ≤ b := by
  rw [Host.reduce_eq_fold, Finset.filter_true_of_mem fun k _ => scalarIdx _ _]
  refine (Finset.fold_max_le _).trans ?_
  refine ⟨fun h k => h.2 k (Finset.mem_univ _), fun h => ⟨?_, fun k _ => h k⟩⟩
  exact le_of_eq_of_le ofBits_ninf bot_le

/-- An absolute value is not negative. -/
theorem abs_nonneg' (x : EReal) : 0 ≤ max x (-x) := by
  rcases le_total 0 x with h | h
  · exact h.trans (le_max_left _ _)
  · exact (EReal.neg_nonneg.mpr h).trans (le_max_right _ _)

/-- THE MAXIMA AGREE. -/
theorem amax_eq :
    Host.reduce (α := Ideal .f32) (FloatOps.maximumf (F := Ideal) (φ := .f32)) (KernelIdeal.Hand.maxAt m c 103 KernelIdeal.Hand.lastPt.isLt) (constant (F := Ideal) KernelIdeal.S_ .f32 0xFF800000#32)
        KernelIdeal.Gen.reducesTo_S8x128_S_d0_1 KernelIdeal.Gen.h_S_
      = Host.reduce (α := Ideal .f32) (FloatOps.maximumf (F := Ideal) (φ := .f32)) (Host.absf (F := Ideal) (φ := .f32) (s := ReferenceIdeal.S53248x3584) (gradsOf m c)) (constant (F := Ideal) ReferenceIdeal.S_ .f32 0xFF800000#32)
          ReferenceIdeal.Gen.reducesTo_S53248x3584_S_d0_1 ReferenceIdeal.Gen.h_S_ := by
  funext i
  refine eq_of_forall_ge_iff (α := EReal) fun b => ?_
  refine (kerMax_le _ i b).trans (Iff.trans ?_ (refMax_le (gradsOf m c) i b).symm)
  constructor
  · intro h k
    have h0 := idx2_lt0 (n0 := 53248) (n1 := 3584) k
    have h1 := idx2_lt1 (n0 := 53248) (n1 := 3584) k
    have := ((KernelIdeal.Hand.maxAt_le m c
      (ix2 (n0 := 8) (n1 := 128) ⟨(k 0).val % 8, by omega⟩ ⟨(k 1).val % 128, by omega⟩) b 103 _).mp (h _)).2 ((k 0).val / 512) (by omega)
      ⟨(k 1).val / 128, by rw [KernelIdeal.Hand.trips_eq]; omega⟩ ⟨(k 0).val % 512 / 128, by omega⟩ ⟨(k 0).val % 128 / 8, by omega⟩
    rwa [elt_eq (gradsOf m c) k _ _ (by
        show (k 0).val = 512 * ((k 0).val / 512) + (128 * ((k 0).val % 512 / 128) + (8 * ((k 0).val % 128 / 8) + (k 0).val % 8)); omega)
      (by show (k 1).val = 128 * ((k 1).val / 128) + (k 1).val % 128; omega)] at this
  · intro h j
    refine (KernelIdeal.Hand.maxAt_le m c j b 103 _).mpr ⟨(abs_nonneg' _).trans (h (ix2 (n0 := 53248) (n1 := 3584) ⟨0, by norm_num⟩ ⟨0, by norm_num⟩)), fun t ht k i' g => ?_⟩
    have hj0 := idx2_lt0 (n0 := 8) (n1 := 128) j
    have hj1 := idx2_lt1 (n0 := 8) (n1 := 128) j
    have hk := k.isLt
    have hT := KernelIdeal.Hand.trips_eq
    have hi := i'.isLt
    have hg := g.isLt
    rw [elt_eq (gradsOf m c) (ix2 (n0 := 53248) (n1 := 3584) ⟨512 * t + (128 * i'.val + (8 * g.val + (j 0).val)), by omega⟩
      ⟨128 * k.val + (j 1).val, by omega⟩) _ _ rfl rfl]
    exact h _

end

/-! ## The claim -/

/-- THE CLAIM: from equal arguments both programs end with the same five results. -/
theorem algebraic : Cert.algebraic_KernelIdeal_ReferenceIdeal := by
  intro m g m' g' _ hm
  refine ⟨_, _, _, _, _, KernelIdeal.Hand.run (F := Ideal) m g, ?_⟩
  refine (θ_run ReferenceIdeal.defs _ _).mono (fun r h c => ?_) (ReferenceIdeal.Hand.run (F := Ideal) m' g')
  obtain ⟨h0, h1, h2, h3, h4, h5, h6, h7⟩ := h c
  obtain ⟨e0, e1, e2⟩ := hm c
  have ei : ReferenceIdeal.Hand.invV (F := Ideal) m' c = KernelIdeal.Hand.invV (F := Ideal) m c := by
    rw [ReferenceIdeal.Hand.invV_eq, KernelIdeal.Hand.invV_eq, e2]
    exact congrFun (inverseV_eq _).symm _
  rw [e0, e1] at h0 h1 h2 h4
  rw [ei] at h1 h2
  rw [e2] at h3 h4
  refine ⟨h0.trans ?_, h1.trans ?_, h2.trans ?_, h3.trans ?_, h4.trans ?_, h5, h6, h7⟩
  · rw [dbias_eq]
    unfold gradsOf
    rw [grads_eq]
  · exact (codes_eq _ _ _).symm
  · exact (codesT_eq _ _ _).symm
  · exact (scaleV_eq _).symm
  · rw [amax_eq]
    unfold gradsOf
    rw [grads_eq]
    rfl

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.KFrame
public import proofs.«01_k».proof.Proof.KWords
public import proofs.«01_k».proof.Proof.Results
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Read
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Reference.Gen.facts,
    Cert.Hand.frame_words, fun m ρ _ => Cert.KernelIdeal.Hand.frame m ρ,
    fun m ρ _ => Cert.ReferenceIdeal.Gen.frame m ρ, fun m ρ _ => Cert.Reference.Gen.frame m ρ,
    ⟨IdealRules.named_const.statement Cert.KernelIdeal.κ "gelu_kc" .f32 0x3D122279#32 _ rfl,
      IdealRules.named_const.statement Cert.KernelIdeal.κ "gelu_k" .f32 0x3F4C422A#32 _ rfl,
      IdealRules.named_const.statement Cert.KernelIdeal.κ "gelu_k_third" .f32 0x3E882C1C#32 _ rfl,
      IdealRules.named_const.statement Cert.KernelIdeal.κ "third" .f32 0x3EAAAAAB#32 _ rfl⟩,
    ⟨IdealRules.named_const.statement Cert.ReferenceIdeal.κ "gelu_c" .f32 0x3D372713#32 _ rfl,
      IdealRules.named_const.statement Cert.ReferenceIdeal.κ "gelu_k" .f32 0x3F4C422A#32 _ rfl,
      IdealRules.named_const.statement Cert.ReferenceIdeal.κ "gelu_3c" .f32 0x3E095D4F#32 _ rfl⟩,
    Cert.Hand.algebraic⟩

end Cert.Proof

end
